-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩
abbrev S2x512x2x64 : Shape := ⟨4, ![2, 512, 2, 64]⟩
abbrev S2x2x64x512 : Shape := ⟨4, ![2, 2, 64, 512]⟩
abbrev S2x2x512x64 : Shape := ⟨4, ![2, 2, 512, 64]⟩
abbrev S512x512 : Shape := ⟨2, ![512, 512]⟩
abbrev S3x128x768 : Shape := ⟨3, ![3, 128, 768]⟩
abbrev S128x768 : Shape := ⟨2, ![128, 768]⟩
abbrev S3 : Shape := ⟨1, ![3]⟩
abbrev S256x64 : Shape := ⟨2, ![256, 64]⟩
abbrev S1x1x64x512 : Shape := ⟨4, ![1, 1, 64, 512]⟩
abbrev S64x512 : Shape := ⟨2, ![64, 512]⟩
abbrev S256x512 : Shape := ⟨2, ![256, 512]⟩
abbrev S256 : Shape := ⟨1, ![256]⟩
abbrev S256x1 : Shape := ⟨2, ![256, 1]⟩
abbrev S1x1x512x64 : Shape := ⟨4, ![1, 1, 512, 64]⟩
abbrev S512x64 : Shape := ⟨2, ![512, 64]⟩
abbrev S1 : Shape := ⟨1, ![1]⟩
abbrev S1x128x768 : Shape := ⟨3, ![1, 128, 768]⟩

abbrev nBuf : Space → Nat
  | .hbm => 38
  | .vmem => 11
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x2x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x2x64, .bf16⟩
  | .hbm, ⟨33, _⟩ => ⟨S2x2x64x512, .bf16⟩
  | .hbm, ⟨34, _⟩ => ⟨S2x2x512x64, .bf16⟩
  | .hbm, ⟨35, _⟩ => ⟨S512x768, .bf16⟩
  | .hbm, ⟨36, _⟩ => ⟨S512x768, .f32⟩
  | .hbm, ⟨37, _⟩ => ⟨S2x256x768, .f32⟩
  | .local _ .vmem, ⟨0, _⟩ => ⟨S512x768, .bf16⟩
  | .local _ .vmem, ⟨1, _⟩ => ⟨S768x512, .bf16⟩
  | .local _ .vmem, ⟨2, _⟩ => ⟨S2x2x64x512, .bf16⟩
  | .local _ .vmem, ⟨3, _⟩ => ⟨S2x2x512x64, .bf16⟩
  | .local _ .vmem, ⟨4, _⟩ => ⟨S512x768, .bf16⟩
  | .local _ .vmem, ⟨5, _⟩ => ⟨S512x768, .f32⟩
  | .local _ .vmem, ⟨6, _⟩ => ⟨S512x512, .bf16⟩
  | .local _ .vmem, ⟨7, _⟩ => ⟨S512x768, .bf16⟩
  | .local _ .vmem, ⟨8, _⟩ => ⟨S3x128x768, .bf16⟩
  | .local _ .vmem, ⟨9, _⟩ => ⟨S128x768, .bf16⟩
  | .local _ .vmem, ⟨10, _⟩ => ⟨S3x128x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_270 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v425 : BitVec 32 := Scalar.addi v2 c1_i32_270
  let c4_i32_271 : BitVec 32 := 4#32
  let c0_i32_272 : BitVec 32 := 0#32
  let v426 : BitVec 1 := Scalar.cmpi .eq c4_i32_271 c0_i32_272
  let c1_i32_273 : BitVec 32 := 1#32
  let v427 : BitVec 32 := Scalar.select v426 c1_i32_273 c4_i32_271
  let v428 : BitVec 32 := Scalar.remsi v425 v427
  let c0_i32_275 : BitVec 32 := 0#32
  let v430 : BitVec 1 := Scalar.cmpi .slt v428 c0_i32_275
  let c0_i32_276 : BitVec 32 := 0#32
  let v431 : BitVec 1 := Scalar.cmpi .slt v427 c0_i32_276
  let v432 : BitVec 1 := Scalar.xori v430 v431
  let c0_i32_274 : BitVec 32 := 0#32
  let v429 : BitVec 1 := Scalar.cmpi .ne v428 c0_i32_274
  let v433 : BitVec 1 := Scalar.andi v432 v429
  let v434 : BitVec 32 := Scalar.addi v428 v427
  let v435 : BitVec 32 := Scalar.select v433 v434 v428
  let c128_i32 : BitVec 32 := 128#32
  let v436 : BitVec 32 := Scalar.muli v435 c128_i32
  let c0_i32_284 : BitVec 32 := 0#32
  ![v436.toNat, 0]
def k0_dev4 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_270 : BitVec 32 := 1#32
  let v425 : BitVec 32 := Scalar.addi v2 c1_i32_270
  let c4_i32_271 : BitVec 32 := 4#32
  let c0_i32_272 : BitVec 32 := 0#32
  let v426 : BitVec 1 := Scalar.cmpi .eq c4_i32_271 c0_i32_272
  let c1_i32_273 : BitVec 32 := 1#32
  let v427 : BitVec 32 := Scalar.select v426 c1_i32_273 c4_i32_271
  let v428 : BitVec 32 := Scalar.remsi v425 v427
  let c0_i32_275 : BitVec 32 := 0#32
  let v430 : BitVec 1 := Scalar.cmpi .slt v428 c0_i32_275
  let c0_i32_276 : BitVec 32 := 0#32
  let v431 : BitVec 1 := Scalar.cmpi .slt v427 c0_i32_276
  let v432 : BitVec 1 := Scalar.xori v430 v431
  let c0_i32_274 : BitVec 32 := 0#32
  let v429 : BitVec 1 := Scalar.cmpi .ne v428 c0_i32_274
  let v433 : BitVec 1 := Scalar.andi v432 v429
  let v434 : BitVec 32 := Scalar.addi v428 v427
  let v435 : BitVec 32 := Scalar.select v433 v434 v428
  let c1_i32_280 : BitVec 32 := 1#32
  let v437 : BitVec 32 := Scalar.muli v435 c1_i32_280
  let v438 : BitVec 32 := Scalar.addi c0_i32_281 v437
  v438.toNat
def k0_dev5 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_285 : BitVec 32 := 2#32
  let v446 : BitVec 32 := Scalar.addi v2 c2_i32_285
  let c4_i32_286 : BitVec 32 := 4#32
  let c0_i32_287 : BitVec 32 := 0#32
  let v447 : BitVec 1 := Scalar.cmpi .eq c4_i32_286 c0_i32_287
  let c1_i32_288 : BitVec 32 := 1#32
  let v448 : BitVec 32 := Scalar.select v447 c1_i32_288 c4_i32_286
  let v449 : BitVec 32 := Scalar.remsi v446 v448
  let c0_i32_290 : BitVec 32 := 0#32
  let v451 : BitVec 1 := Scalar.cmpi .slt v449 c0_i32_290
  let c0_i32_291 : BitVec 32 := 0#32
  let v452 : BitVec 1 := Scalar.cmpi .slt v448 c0_i32_291
  let v453 : BitVec 1 := Scalar.xori v451 v452
  let c0_i32_289 : BitVec 32 := 0#32
  let v450 : BitVec 1 := Scalar.cmpi .ne v449 c0_i32_289
  let v454 : BitVec 1 := Scalar.andi v453 v450
  let v455 : BitVec 32 := Scalar.addi v449 v448
  let v456 : BitVec 32 := Scalar.select v454 v455 v449
  let c1_i32_296 : BitVec 32 := 1#32
  let v458 : BitVec 32 := Scalar.muli v456 c1_i32_296
  let v459 : BitVec 32 := Scalar.addi c0_i32_297 v458
  v459.toNat
def k0_dev6 (d0 : Dev nD) : Nat :=
  let c0_i32_313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_301 : BitVec 32 := 3#32
  let v467 : BitVec 32 := Scalar.addi v2 c3_i32_301
  let c4_i32_302 : BitVec 32 := 4#32
  let c0_i32_303 : BitVec 32 := 0#32
  let v468 : BitVec 1 := Scalar.cmpi .eq c4_i32_302 c0_i32_303
  let c1_i32_304 : BitVec 32 := 1#32
  let v469 : BitVec 32 := Scalar.select v468 c1_i32_304 c4_i32_302
  let v470 : BitVec 32 := Scalar.remsi v467 v469
  let c0_i32_306 : BitVec 32 := 0#32
  let v472 : BitVec 1 := Scalar.cmpi .slt v470 c0_i32_306
  let c0_i32_307 : BitVec 32 := 0#32
  let v473 : BitVec 1 := Scalar.cmpi .slt v469 c0_i32_307
  let v474 : BitVec 1 := Scalar.xori v472 v473
  let c0_i32_305 : BitVec 32 := 0#32
  let v471 : BitVec 1 := Scalar.cmpi .ne v470 c0_i32_305
  let v475 : BitVec 1 := Scalar.andi v474 v471
  let v476 : BitVec 32 := Scalar.addi v470 v469
  let v477 : BitVec 32 := Scalar.select v475 v476 v470
  let c1_i32_312 : BitVec 32 := 1#32
  let v479 : BitVec 32 := Scalar.muli v477 c1_i32_312
  let v480 : BitVec 32 := Scalar.addi c0_i32_313 v479
  v480.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_317 : BitVec 32 := 128#32
  let v488 : BitVec 32 := Scalar.muli v2 c128_i32_317
  let v489 : Index := Scalar.indexCast v488
  let c0_318 : Index := 0#32
  ![v489.toNat, 0]
def k0_dev7 (d0 : Dev nD) : Nat :=
  let c0_i32_370 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_359 : BitVec 32 := 1#32
  let v532 : BitVec 32 := Scalar.addi v2 c1_i32_359
  let c4_i32_360 : BitVec 32 := 4#32
  let c0_i32_361 : BitVec 32 := 0#32
  let v533 : BitVec 1 := Scalar.cmpi .eq c4_i32_360 c0_i32_361
  let c1_i32_362 : BitVec 32 := 1#32
  let v534 : BitVec 32 := Scalar.select v533 c1_i32_362 c4_i32_360
  let v535 : BitVec 32 := Scalar.remsi v532 v534
  let c0_i32_364 : BitVec 32 := 0#32
  let v537 : BitVec 1 := Scalar.cmpi .slt v535 c0_i32_364
  let c0_i32_365 : BitVec 32 := 0#32
  let v538 : BitVec 1 := Scalar.cmpi .slt v534 c0_i32_365
  let v539 : BitVec 1 := Scalar.xori v537 v538
  let c0_i32_363 : BitVec 32 := 0#32
  let v536 : BitVec 1 := Scalar.cmpi .ne v535 c0_i32_363
  let v540 : BitVec 1 := Scalar.andi v539 v536
  let v541 : BitVec 32 := Scalar.addi v535 v534
  let v542 : BitVec 32 := Scalar.select v540 v541 v535
  let c1_i32_369 : BitVec 32 := 1#32
  let v543 : BitVec 32 := Scalar.muli v542 c1_i32_369
  let v544 : BitVec 32 := Scalar.addi c0_i32_370 v543
  v544.toNat
def k0_dev8 (d0 : Dev nD) : Nat :=
  let c0_i32_384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_373 : BitVec 32 := 2#32
  let v551 : BitVec 32 := Scalar.addi v2 c2_i32_373
  let c4_i32_374 : BitVec 32 := 4#32
  let c0_i32_375 : BitVec 32 := 0#32
  let v552 : BitVec 1 := Scalar.cmpi .eq c4_i32_374 c0_i32_375
  let c1_i32_376 : BitVec 32 := 1#32
  let v553 : BitVec 32 := Scalar.select v552 c1_i32_376 c4_i32_374
  let v554 : BitVec 32 := Scalar.remsi v551 v553
  let c0_i32_378 : BitVec 32 := 0#32
  let v556 : BitVec 1 := Scalar.cmpi .slt v554 c0_i32_378
  let c0_i32_379 : BitVec 32 := 0#32
  let v557 : BitVec 1 := Scalar.cmpi .slt v553 c0_i32_379
  let v558 : BitVec 1 := Scalar.xori v556 v557
  let c0_i32_377 : BitVec 32 := 0#32
  let v555 : BitVec 1 := Scalar.cmpi .ne v554 c0_i32_377
  let v559 : BitVec 1 := Scalar.andi v558 v555
  let v560 : BitVec 32 := Scalar.addi v554 v553
  let v561 : BitVec 32 := Scalar.select v559 v560 v554
  let c1_i32_383 : BitVec 32 := 1#32
  let v562 : BitVec 32 := Scalar.muli v561 c1_i32_383
  let v563 : BitVec 32 := Scalar.addi c0_i32_384 v562
  v563.toNat
def k0_dev9 (d0 : Dev nD) : Nat :=
  let c0_i32_398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_387 : BitVec 32 := 3#32
  let v570 : BitVec 32 := Scalar.addi v2 c3_i32_387
  let c4_i32_388 : BitVec 32 := 4#32
  let c0_i32_389 : BitVec 32 := 0#32
  let v571 : BitVec 1 := Scalar.cmpi .eq c4_i32_388 c0_i32_389
  let c1_i32_390 : BitVec 32 := 1#32
  let v572 : BitVec 32 := Scalar.select v571 c1_i32_390 c4_i32_388
  let v573 : BitVec 32 := Scalar.remsi v570 v572
  let c0_i32_392 : BitVec 32 := 0#32
  let v575 : BitVec 1 := Scalar.cmpi .slt v573 c0_i32_392
  let c0_i32_393 : BitVec 32 := 0#32
  let v576 : BitVec 1 := Scalar.cmpi .slt v572 c0_i32_393
  let v577 : BitVec 1 := Scalar.xori v575 v576
  let c0_i32_391 : BitVec 32 := 0#32
  let v574 : BitVec 1 := Scalar.cmpi .ne v573 c0_i32_391
  let v578 : BitVec 1 := Scalar.andi v577 v574
  let v579 : BitVec 32 := Scalar.addi v573 v572
  let v580 : BitVec 32 := Scalar.select v578 v579 v573
  let c1_i32_397 : BitVec 32 := 1#32
  let v581 : BitVec 32 := Scalar.muli v580 c1_i32_397
  let v582 : BitVec 32 := Scalar.addi c0_i32_398 v581
  v582.toNat
def k0_off3 (d0 : Dev nD) (c1_i32_404 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_403 : BitVec 32 := 4#32
  let v592 : BitVec 32 := Scalar.addi v2 c4_i32_403
  let v593 : BitVec 32 := Scalar.subi v592 c1_i32_404
  let c4_i32_405 : BitVec 32 := 4#32
  let c0_i32_406 : BitVec 32 := 0#32
  let v594 : BitVec 1 := Scalar.cmpi .eq c4_i32_405 c0_i32_406
  let c1_i32_407 : BitVec 32 := 1#32
  let v595 : BitVec 32 := Scalar.select v594 c1_i32_407 c4_i32_405
  let v596 : BitVec 32 := Scalar.remsi v593 v595
  let c0_i32_409 : BitVec 32 := 0#32
  let v598 : BitVec 1 := Scalar.cmpi .slt v596 c0_i32_409
  let c0_i32_410 : BitVec 32 := 0#32
  let v599 : BitVec 1 := Scalar.cmpi .slt v595 c0_i32_410
  let v600 : BitVec 1 := Scalar.xori v598 v599
  let c0_i32_408 : BitVec 32 := 0#32
  let v597 : BitVec 1 := Scalar.cmpi .ne v596 c0_i32_408
  let v601 : BitVec 1 := Scalar.andi v600 v597
  let v602 : BitVec 32 := Scalar.addi v596 v595
  let v603 : BitVec 32 := Scalar.select v601 v602 v596
  let c128_i32_424 : BitVec 32 := 128#32
  let v615 : BitVec 32 := Scalar.muli v603 c128_i32_424
  let v616 : Index := Scalar.indexCast v615
  let c0_425 : Index := 0#32
  ![v616.toNat, 0]
abbrev stage0_0 : Fin 1 → Memref sig .tc .vmem S512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x2048 : Shape := ⟨2, ![768, 2048]⟩
abbrev S2x512x8x64 : Shape := ⟨4, ![2, 512, 8, 64]⟩
abbrev S2048x768 : Shape := ⟨2, ![2048, 768]⟩
abbrev S2x256x2048 : Shape := ⟨3, ![2, 256, 2048]⟩
abbrev S2x256x32x64 : Shape := ⟨4, ![2, 256, 32, 64]⟩
abbrev S2x512x8x4x64 : Shape := ⟨5, ![2, 512, 8, 4, 64]⟩
abbrev S2x512x32x64 : Shape := ⟨4, ![2, 512, 32, 64]⟩
abbrev S2x32x256x512 : Shape := ⟨4, ![2, 32, 256, 512]⟩
abbrev S_ : Shape := ⟨0, ![]⟩
abbrev S2x32x256 : Shape := ⟨3, ![2, 32, 256]⟩
abbrev S2x32x256x1 : Shape := ⟨4, ![2, 32, 256, 1]⟩
abbrev S2x32x64x256 : Shape := ⟨4, ![2, 32, 64, 256]⟩
abbrev S2x256x32x1 : Shape := ⟨4, ![2, 256, 32, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x2048, .bf16⟩
  | .hbm, ⟨2, _⟩ => ⟨S2x512x8x64, .bf16⟩
  | .hbm, ⟨3, _⟩ => ⟨S2x512x8x64, .bf16⟩
  | .hbm, ⟨4, _⟩ => ⟨S2048x768, .bf16⟩
  | .hbm, ⟨5, _⟩ => ⟨S2x256x768, .f32⟩
  | .hbm, ⟨6, _⟩ => ⟨S768x2048, .f32⟩
  | .hbm, ⟨7, _⟩ => ⟨S2x256x2048, .f32⟩
  | .hbm, ⟨8, _⟩ => ⟨S2x256x32x64, .f32⟩
  | .hbm, ⟨9, _⟩ => ⟨S2x512x8x64, .f32⟩
  | .hbm, ⟨10, _⟩ => ⟨S2x512x8x4x64, .f32⟩
  | .hbm, ⟨11, _⟩ => ⟨S2x512x32x64, .f32⟩
  | .hbm, ⟨12, _⟩ => ⟨S2x512x8x64, .f32⟩
  | .hbm, ⟨13, _⟩ => ⟨S2x512x8x4x64, .f32⟩
  | .hbm, ⟨14, _⟩ => ⟨S2x512x32x64, .f32⟩
  | .hbm, ⟨15, _⟩ => ⟨S2x32x256x512, .f32⟩
  | .hbm, ⟨16, _⟩ => ⟨S_, .f32⟩
  | .hbm, ⟨17, _⟩ => ⟨S2x32x256x512, .f32⟩
  | .hbm, ⟨18, _⟩ => ⟨S2x32x256x512, .f32⟩
  | .hbm, ⟨19, _⟩ => ⟨S_, .f32⟩
  | .hbm, ⟨20, _⟩ => ⟨S2x32x256, .f32⟩
  | .hbm, ⟨21, _⟩ => ⟨S2x32x256x1, .f32⟩
  | .hbm, ⟨22, _⟩ => ⟨S2x32x256x512, .f32⟩
  | .hbm, ⟨23, _⟩ => ⟨S2x32x256x512, .f32⟩
  | .hbm, ⟨24, _⟩ => ⟨S2x32x256x512, .f32⟩
  | .hbm, ⟨25, _⟩ => ⟨S_, .f32⟩
  | .hbm, ⟨26, _⟩ => ⟨S2x32x256, .f32⟩
  | .hbm, ⟨27, _⟩ => ⟨S2x32x256x1, .f32⟩
  | .hbm, ⟨28, _⟩ => ⟨S2x32x64x256, .f32⟩
  | .hbm, ⟨29, _⟩ => ⟨S2x256x32x64, .f32⟩
  | .hbm, ⟨30, _⟩ => ⟨S2x256x32x1, .f32⟩
  | .hbm, ⟨31, _⟩ => ⟨S2x256x32x64, .f32⟩
  | .hbm, ⟨32, _⟩ => ⟨S2x256x32x64, .f32⟩
  | .hbm, ⟨33, _⟩ => ⟨S2x256x2048, .f32⟩
  | .hbm, ⟨34, _⟩ => ⟨S2048x768, .f32⟩
  | .hbm, ⟨35, _⟩ => ⟨S2x256x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Common.lean ====
/- The cells, the duties and the contents of the attention kernel's talk: a barrier, a scatter of row blocks of the
   partial products, and a gather of the summed row blocks. -/
module

public import proofs.«01_k».proof.Defs
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## Resources: the pipeline library's copy of the rounds algebra, and the talk's own, its duties numbered by three -/

/-- The resources: the pipeline library's copy of the rounds algebra, and the talk's own. -/
abbrev UU : Type := UR sig nD τ × URounds (GSem nD τ sig) (Fin 3)

local notation "𝕄" => MT nD τ sig Unit (Elt F) ℕ UU ℕ

/-- Where the pipeline library's copy lies. -/
abbrev EP : Emb (UR sig nD τ) (MT nD τ sig Unit (Elt F) ℕ UU ℕ) := embL
/-- Where the talk's copy lies. -/
abbrev ER : Emb (URounds (GSem nD τ sig) (Fin 3)) (MT nD τ sig Unit (Elt F) ℕ UU ℕ) := embR

/-- No loop of the program needs a variant. -/
abbrev 𝒱₀ : Variants := Variants.none

/-! ## Peers -/

/-- The device `k + 1` further round: the one that slot `k`'s copy goes to. -/
def up (c : Dev nD) (k : Fin 3) : Dev nD := ⟨(c.val + (k.val + 1)) % 4, Nat.mod_lt _ (by decide)⟩
/-- The device `k + 1` back: the one that writes slot `k`. -/
def dn (c : Dev nD) (k : Fin 3) : Dev nD := ⟨(c.val + (3 - k.val)) % 4, Nat.mod_lt _ (by decide)⟩

/-- Going back and then on again is staying. -/
theorem up_dn (c : Dev nD) (k : Fin 3) : up (dn c k) k = c := by revert c k; decide
/-- Going on and then back again is staying. -/
theorem dn_up (c : Dev nD) (k : Fin 3) : dn (up c k) k = c := by revert c k; decide
/-- Going `k + 1` on and then `3 - k` on is going once round. -/
theorem up_up_rev (c : Dev nD) (k : Fin 3) : up (up c k) k.rev = c := by revert c k; decide

/-- Going `k + 1` round, as a permutation of the devices. -/
def turn (k : Fin 3) : Dev nD ≃ Dev nD := ⟨fun c => up c k, fun c => dn c k, fun c => dn_up c k, fun c => up_dn c k⟩

/-- The device that the barrier's first signal goes to. -/
theorem dev1 (c : Dev nD) : (⟨k0_dev1 c, k0_dev1_lt c⟩ : Dev nD) = up c 0 := by revert c; decide +kernel
/-- The device that the barrier's second signal goes to. -/
theorem dev2 (c : Dev nD) : (⟨k0_dev2 c, k0_dev2_lt c⟩ : Dev nD) = up c 1 := by revert c; decide +kernel
/-- The device that the barrier's third signal goes to. -/
theorem dev3 (c : Dev nD) : (⟨k0_dev3 c, k0_dev3_lt c⟩ : Dev nD) = up c 2 := by revert c; decide +kernel
/-- The device that the scatter's first copy goes to. -/
theorem dev4 (c : Dev nD) : (⟨k0_dev4 c, k0_dev4_lt c⟩ : Dev nD) = up c 0 := by revert c; decide +kernel
/-- The device that the scatter's second copy goes to. -/
theorem dev5 (c : Dev nD) : (⟨k0_dev5 c, k0_dev5_lt c⟩ : Dev nD) = up c 1 := by revert c; decide +kernel
/-- The device that the scatter's third copy goes to. -/
theorem dev6 (c : Dev nD) : (⟨k0_dev6 c, k0_dev6_lt c⟩ : Dev nD) = up c 2 := by revert c; decide +kernel
/-- The device that the gather's first copy goes to. -/
theorem dev7 (c : Dev nD) : (⟨k0_dev7 c, k0_dev7_lt c⟩ : Dev nD) = up c 0 := by revert c; decide +kernel
/-- The device that the gather's second copy goes to. -/
theorem dev8 (c : Dev nD) : (⟨k0_dev8 c, k0_dev8_lt c⟩ : Dev nD) = up c 1 := by revert c; decide +kernel
/-- The device that the gather's third copy goes to. -/
theorem dev9 (c : Dev nD) : (⟨k0_dev9 c, k0_dev9_lt c⟩ : Dev nD) = up c 2 := by revert c; decide +kernel

/-! ## Memrefs -/

/-- The rows of `x`. -/
abbrev xM : Memref sig .tc .vmem S512x768 .bf16 := Memref.whole cc0_stg0_0
/-- The device's columns of the query projection. -/
abbrev wqM : Memref sig .tc .vmem S768x512 .bf16 := Memref.whole cc0_stg1_0
/-- The device's key heads, transposed. -/
abbrev ktM : Memref sig .tc .vmem S2x2x64x512 .bf16 := Memref.whole cc0_stg2_0
/-- The device's value heads. -/
abbrev vM : Memref sig .tc .vmem S2x2x512x64 .bf16 := Memref.whole cc0_stg3_0
/-- The device's rows of the output projection. -/
abbrev woM : Memref sig .tc .vmem S512x768 .bf16 := Memref.whole cc0_stg4_0
/-- The result. -/
abbrev outM : Memref sig .tc .vmem S512x768 .f32 := Memref.whole cc0_stg5_0
/-- The heads' outputs side by side. -/
abbrev oM : Memref sig .tc .vmem S512x512 .bf16 := Memref.whole cc0_scratch0
/-- The partial product. -/
abbrev pM : Memref sig .tc .vmem S512x768 .bf16 := Memref.whole cc0_scratch1
/-- The three slots of the scatter. -/
abbrev rsM : Memref sig .tc .vmem S3x128x768 .bf16 := Memref.whole cc0_scratch2
/-- The summed row block, rounded. -/
abbrev gM : Memref sig .tc .vmem S128x768 .bf16 := Memref.whole cc0_scratch3
/-- The three slots of the gather. -/
abbrev agM : Memref sig .tc .vmem S3x128x768 .bf16 := Memref.whole cc0_scratch4

/-- A slot lies inside the buffer of three. -/
theorem slot_inb (k : Fin 3) : ∀ a, (![k.val, 0, 0] : Fin 3 → ℕ) a + S1x128x768.size a ≤ S3x128x768.size a := by
  revert k; decide +kernel

/-- Slot `k` of a buffer of three. -/
abbrev slotRect (k : Fin 3) : Rect S3x128x768 := Rect.unit (s := S3x128x768) ![k.val, 0, 0] S1x128x768.size (slot_inb k)
/-- Slot `k` of the scatter. -/
abbrev rsV (k : Fin 3) : Memref sig .tc .vmem S128x768 .bf16 :=
  (rsM.slice (slotRect k) (fun _ => rfl)).squeeze S128x768 squeezes_S1x128x768_S128x768
/-- Slot `k` of the gather. -/
abbrev agV (k : Fin 3) : Memref sig .tc .vmem S128x768 .bf16 :=
  (agM.slice (slotRect k) (fun _ => rfl)).squeeze S128x768 squeezes_S1x128x768_S128x768

/-- A device's 128 rows lie inside the 512. -/
theorem row_inb (e : Dev nD) : ∀ a, (![128 * e.val, 0] : Fin 2 → ℕ) a + S128x768.size a ≤ S512x768.size a := by
  revert e; decide +kernel
/-- The 128 rows of 512 that are device `e`'s. -/
abbrev rowRect (e : Dev nD) : Rect S512x768 := Rect.unit (s := S512x768) ![128 * e.val, 0] S128x768.size (row_inb e)
/-- Device `e`'s rows of the partial product. -/
abbrev pV (e : Dev nD) : Memref sig .tc .vmem S128x768 .bf16 := pM.slice (rowRect e) (fun _ => rfl)

/-- A scatter's copy leaves from the rows of the device that it goes to. -/
theorem off1 (c : Dev nD) (k : Fin 3) : k0_off1 c (BitVec.ofNat 32 (1 + k.val)) = ![128 * (up c k).val, 0] := by
  revert c k; decide +kernel
/-- The core's own rows start at 128 times its number. -/
theorem off2 (c : Dev nD) : k0_off2 c = ![128 * c.val, 0] := by revert c; decide +kernel
/-- What came into slot `k` of the gather is stored at the rows of the device that sent it. -/
theorem off3 (c : Dev nD) (k : Fin 3) : k0_off3 c (BitVec.ofNat 32 (1 + k.val)) = ![128 * (dn c k).val, 0] := by
  revert c k; decide +kernel

/-- Device `e`'s rows of a 512-row array. -/
def rowsOf {α : Type} (e : Dev nD) (P : S512x768.Idx → α) : S128x768.Idx → α := fun j => P ((rowRect e).emb j)

/-! ## What the buffers hold -/

/-- What a device's five input windows hold. -/
structure Inp (F : FTy → Type) where
  x : Vec F S512x768 .bf16
  wq : Vec F S768x512 .bf16
  kt : Vec F S2x2x64x512 .bf16
  v : Vec F S2x2x512x64 .bf16
  wo : Vec F S512x768 .bf16

/-- One head's output: the scaled scores of a batch's queries against a key head, their exponentials about the row's
    maximum, the weighted values, divided by the exponentials' sum. -/
def headVal (q : Vec F S256x64 .bf16) (k : Vec F S1x1x64x512 .bf16) (v : Vec F S1x1x512x64 .bf16) : Vec F S256x64 .bf16 :=
  let s : FVec F S256x512 .f32 :=
    mulf (matmul dot_S256x64_S64x512_S256x512_1_0_0_1_n_n none q (shapeCast S64x512 k shapeCasts_S1x1x64x512_S64x512)
      (constant S256x512 .f32 0x00000000#32)) (broadcast S256x512 (Scalar.ofBits .f32 0x3E000000#32))
  let p : FVec F S256x512 .f32 :=
    exp (subf s (broadcastTo S256x512
      (shapeCast S256x1 (multiReduction .maximumf [1] S256 s 0xFF800000#32 reduces_S256x512_S256 (.inl rfl) rfl) shapeCasts_S256_S256x1)
      broadcasts_S256x1_S256x512))
  shapeCast S256x64 (truncf .bf16 (divf
    (matmul dot_S256x512_S512x64_S256x64_1_0_0_1_n_n none (truncf .bf16 p bitsLt_bf16_f32)
      (shapeCast S512x64 v shapeCasts_S1x1x512x64_S512x64) (constant S256x64 .f32 0x00000000#32))
    (broadcastTo S256x64
      (shapeCast S256x1 (multiReduction .add [1] S256 p 0x00000000#32 reduces_S256x512_S256 (.inl rfl) rfl) shapeCasts_S256_S256x1)
      broadcasts_S256x1_S256x64)) bitsLt_bf16_f32) shapeCasts_S256x64_S256x64

/-- A key head lies inside the transposed keys. -/
theorem kt_inb (b g : Fin 2) : ∀ a, (![b.val, g.val, 0, 0] : Fin 4 → ℕ) a + S1x1x64x512.size a ≤ S2x2x64x512.size a := by
  revert b g; decide +kernel
/-- A value head lies inside the values. -/
theorem v_inb (b g : Fin 2) : ∀ a, (![b.val, g.val, 0, 0] : Fin 4 → ℕ) a + S1x1x512x64.size a ≤ S2x2x512x64.size a := by
  revert b g; decide +kernel
/-- A head's queries lie inside the projected rows. -/
theorem q_slices (b : Fin 2) (h : Fin 8) : S512x512.Slices ![256 * b.val, 64 * h.val] S256x64 := by
  revert b h; decide +kernel

/-- The key head `g` of batch `b`, transposed. -/
def ktOf (i : Inp F) (b g : Fin 2) : Vec F S1x1x64x512 .bf16 :=
  fun j => i.kt ((Rect.unit (s := S2x2x64x512) ![b.val, g.val, 0, 0] S1x1x64x512.size (kt_inb b g)).emb j)
/-- The value head `g` of batch `b`. -/
def vOf (i : Inp F) (b g : Fin 2) : Vec F S1x1x512x64 .bf16 :=
  fun j => i.v ((Rect.unit (s := S2x2x512x64) ![b.val, g.val, 0, 0] S1x1x512x64.size (v_inb b g)).emb j)

/-- A query head's key head. -/
def kvHead (h : Fin 8) : Fin 2 := ⟨h.val / 4, by omega⟩

/-- Head `h` of batch `b`. -/
def headAt (i : Inp F) (b : Fin 2) (h : Fin 8) : Vec F S256x64 .bf16 :=
  headVal (extractStridedSlice S256x64 ![256 * b.val, 64 * h.val] (k0_pay1 i.x i.wq) (q_slices b h)) (ktOf i b (kvHead h)) (vOf i b (kvHead h))

/-- A head's output lies inside the heads side by side. -/
theorem o_inb (b : Fin 2) (h : Fin 8) : ∀ a, (![256 * b.val, 64 * h.val] : Fin 2 → ℕ) a + S256x64.size a ≤ S512x512.size a := by
  revert b h; decide +kernel
/-- Where head `h` of batch `b` lies among the heads side by side. -/
abbrev headRect (b : Fin 2) (h : Fin 8) : Rect S512x512 := Rect.unit (s := S512x512) ![256 * b.val, 64 * h.val] S256x64.size (o_inb b h)

/-- The heads of both batches side by side. -/
def attn (i : Inp F) : Vec F S512x512 .bf16 := fun j =>
  headAt i ⟨(j 0).val / 256, by have := (j 0).isLt; change _ < 512 at this; omega⟩ ⟨(j 1).val / 64, by have := (j 1).isLt; change _ < 512 at this; omega⟩
    (fun | 0 => ⟨(j 0).val % 256, Nat.mod_lt _ (by decide)⟩ | 1 => ⟨(j 1).val % 64, Nat.mod_lt _ (by decide)⟩)

/-- A device's partial product: its heads against its rows of the output projection. -/
def pbf (i : Inp F) : Vec F S512x768 .bf16 := k0_pay33 (attn i) i.wo

variable (inp : Dev nD → Inp F)

/-- Device `c`'s row block summed over the devices, its own part first, then the slots in order. -/
def acc (c : Dev nD) : FVec F S128x768 .f32 :=
  addf (addf (addf (extf .f32 (rowsOf c (pbf (inp c)) : FVec F S128x768 .bf16) bitsLt_bf16_f32)
      (extf .f32 (rowsOf c (pbf (inp (dn c 0))) : FVec F S128x768 .bf16) bitsLt_bf16_f32))
      (extf .f32 (rowsOf c (pbf (inp (dn c 1))) : FVec F S128x768 .bf16) bitsLt_bf16_f32))
      (extf .f32 (rowsOf c (pbf (inp (dn c 2))) : FVec F S128x768 .bf16) bitsLt_bf16_f32)

/-- The summed row block, rounded: what device `c` sends round. -/
def agq (c : Dev nD) : FVec F S128x768 .bf16 :=
  shapeCast S128x768 (truncf .bf16 (acc inp c) bitsLt_bf16_f32) shapeCasts_S128x768_S128x768

/-- Row block `e` of device `c`'s result: its own sum as it is, another's as it came. -/
def outBlk (c e : Dev nD) : FVec F S128x768 .f32 :=
  if e = c then acc inp c else extf .f32 (agq inp e) bitsLt_bf16_f32

/-- Device `c`'s result. -/
def outC (c : Dev nD) : Vec F S512x768 .f32 := fun j =>
  outBlk inp c ⟨(j 0).val / 128, by have := (j 0).isLt; change _ < 512 at this; change _ < 4; omega⟩
    (fun | 0 => ⟨(j 0).val % 128, Nat.mod_lt _ (by decide)⟩ | 1 => j 1)

/-! ## Points-tos -/

/-- Slot `k` of device `c`'s scatter buffer. -/
abbrev rsPts (c : Dev nD) (k : Fin 3) (f : Buf (Elt F) ((rsV k).view.loc (c : Thread nD τ))) : sProp 𝕄 :=
  (rsV k).view.loc (c : Thread nD τ) ↦[(rsV k).view.set]{fullShare} f
/-- Slot `k` of device `c`'s gather buffer. -/
abbrev agPts (c : Dev nD) (k : Fin 3) (f : Buf (Elt F) ((agV k).view.loc (c : Thread nD τ))) : sProp 𝕄 :=
  (agV k).view.loc (c : Thread nD τ) ↦[(agV k).view.set]{fullShare} f
/-- Device `e`'s rows of device `c`'s partial product. -/
abbrev pPts (c e : Dev nD) (f : Buf (Elt F) ((pV e).view.loc (c : Thread nD τ))) : sProp 𝕄 :=
  (pV e).view.loc (c : Thread nD τ) ↦[(pV e).view.set]{fullShare} f
/-- The rounded sum, whole, at a share. -/
abbrev gPts (c : Dev nD) (q : PosShare TreeShare) (f : Buf (Elt F) (gM.view.loc (c : Thread nD τ))) : sProp 𝕄 :=
  gM.view.loc (c : Thread nD τ) ↦[gM.view.set]{q} f

/-- The three parts of the full share, one per copy under way. -/
def third : Fin 3 → PosShare TreeShare
  | 0 => fullShare.left
  | 1 => fullShare.right.left
  | 2 => fullShare.right.right

/-! ## Cells -/

/-- The kernel's own DMA semaphores, by family and slot: 0 the scatter's departures, 1 its arrivals, 2 and 3 the gather's. -/
def semOf (f : Fin 4) (k : Fin 3) : DmaSem sig := ⟨6 + 3 * f.val + k.val, by
  have h1 := f.isLt; have h2 := k.isLt; show _ < 18; omega⟩

/-- Device `c`'s barrier cell. -/
abbrev barCell (c : Dev nD) : GSem nD τ sig := ((c : Thread nD τ), .reg barrier0)
/-- Device `c`'s cell of family `f` and slot `k`. -/
abbrev cell (f : Fin 4) (c : Dev nD) (k : Fin 3) : GSem nD τ sig := ((c : Thread nD τ), .dma (semOf f k))

/-- The family and the slot of one of the kernel's own DMA semaphores; nothing of a staging semaphore. -/
def kindOf (q : DmaSem sig) : Option (Fin 4 × Fin 3) :=
  if h : 6 ≤ q.val then some (⟨(q.val - 6) / 3, by have := q.isLt; change _ < 18 at this; omega⟩, ⟨(q.val - 6) % 3, Nat.mod_lt _ (by decide)⟩)
  else none

/-- `kindOf` reads back the family and the slot. -/
theorem kindOf_semOf (f : Fin 4) (k : Fin 3) : kindOf (semOf f k) = some (f, k) := by revert f k; decide +kernel

/-- What one copy credits. -/
abbrev N : ℕ := (rsV 0).view.dmaCredit
/-- A copy credits something. -/
theorem N_pos : 0 < N := View.dmaCredit_pos _ (by decide)

/-! ## The duties -/

/-- Paid to `c`'s barrier cell by the device slot `k`'s copies go to: its two slots `k`, and that their arrival cells are at
    round 0. -/
def barPay (c : Dev nD) (k : Fin 3) : sProp 𝕄 :=
  iprop((∃ f, rsPts (up c k) k f) ∗ (∃ f, agPts (up c k) k f)
    ∗ reached ER (cell 1 (up c k) k) 0 ∗ reached ER (cell 3 (up c k) k) 0)

/-- Paid to one of `c`'s DMA cells, by family and slot. -/
def dmaPay (c : Dev nD) : Fin 4 → Fin 3 → sProp 𝕄
  | 0, k => pPts c (up c k) (pbf (inp c))
  | 1, k => iprop(∃ f, ⌜(rsV k).view.read (Elt F) f = rowsOf c (pbf (inp (dn c k)))⌝ ∗ rsPts c k f)
  | 2, k => gPts c (third k) (agq inp c)
  | 3, k => iprop(∃ f, ⌜(agV k).view.read (Elt F) f = agq inp (dn c k)⌝ ∗ agPts c k f)

/-- One round on every cell: three duties on a barrier cell, one on each of the kernel's own DMA cells. -/
def talk : Rounds.Schedule (GSem nD τ sig) (Fin 3) 𝕄 where
  duties g r := if r = 0 ∧ g.1.2 = .tc then (match g.2 with | .reg _ => Finset.univ | .dma q => if (kindOf q).isSome then {0} else ∅) else ∅
  unitless _ := False
  amount g _ _ := match g.2 with | .reg _ => 1 | .dma _ => N
  payload g _ d := match g.2 with
    | .reg _ => barPay g.1.1 d
    | .dma q => match kindOf q with
      | none => iprop(emp)
      | some (f, k) => dmaPay inp g.1.1 f k
  amount_pos g _ _ _ := by
    obtain ⟨t, s | s⟩ := g
    · exact Nat.one_pos
    · exact N_pos

set_option synthInstance.maxHeartbeats 400000 in
/-- What a DMA cell is paid may be kept in an invariant. -/
instance dmaPay_storable (c : Dev nD) (f : Fin 4) (k : Fin 3) : BI.Storable (upEmb : UEmb _ 𝕄) (dmaPay inp c f k) := by
  match f with
  | 0 => unfold dmaPay; infer_instance
  | 1 => unfold dmaPay; infer_instance
  | 2 => unfold dmaPay; infer_instance
  | 3 => unfold dmaPay; infer_instance

set_option synthInstance.maxHeartbeats 400000 in
/-- What any cell is paid may be kept in an invariant. -/
instance talk_payload_storable (g : GSem nD τ sig) (r : ℕ) (d : Fin 3) :
    BI.Storable (upEmb : UEmb _ 𝕄) ((talk inp).payload g r d) := by
  obtain ⟨t, s | s⟩ := g
  · show BI.Storable upEmb (barPay t.1 d)
    unfold barPay; infer_instance
  · show BI.Storable upEmb (match kindOf s with | none => iprop(emp) | some (f, k) => dmaPay inp t.1 f k)
    cases kindOf s with
    | none => infer_instance
    | some p => exact dmaPay_storable inp t.1 p.1 p.2

section Tables

variable (c : Dev nD) (f : Fin 4) (k : Fin 3) (d : Fin 3)

/-- A barrier cell has three duties. -/
theorem duties_bar : (talk inp).duties (barCell c) 0 = Finset.univ := by dsimp only [talk]; exact if_pos ⟨rfl, rfl⟩
/-- A DMA cell has one duty. -/
theorem duties_cell : (talk inp).duties (cell f c k) 0 = {0} := by
  dsimp only [talk]; rw [if_pos ⟨rfl, rfl⟩, kindOf_semOf]; rfl
/-- No cell has a duty after the first round. -/
theorem duties_later (g : GSem nD τ sig) : ∀ r, 1 ≤ r → (talk inp).duties g r = ∅ :=
  fun r hr => by dsimp only [talk]; rw [if_neg (fun h => by omega)]
/-- A barrier duty is one unit. -/
theorem amount_bar : (talk inp).amount (barCell c) 0 d = 1 := rfl
/-- A DMA duty is one copy's credit. -/
theorem amount_cell : (talk inp).amount (cell f c k) 0 d = N := rfl
/-- What a barrier duty pays. -/
theorem payload_bar : (talk inp).payload (barCell c) 0 d = barPay c d := rfl
/-- What a DMA duty pays. -/
theorem payload_cell : (talk inp).payload (cell f c k) 0 d = dmaPay inp c f k := by
  dsimp only [talk]; rw [kindOf_semOf]
/-- A barrier cell is paid three units. -/
theorem expect_bar : (talk inp).expect (barCell c) 0 = 3 := by
  unfold Schedule.expect Schedule.amountOf; rw [duties_bar]; rfl
/-- A DMA cell is paid one copy's credit. -/
theorem expect_cell : (talk inp).expect (cell f c k) 0 = N := by
  unfold Schedule.expect Schedule.amountOf; rw [duties_cell, Finset.sum_singleton, amount_cell]
/-- All that a barrier cell is paid. -/
theorem rest_bar : bigSep ((talk inp).duties (barCell c) 0 \ ∅) (fun u => (talk inp).payload (barCell c) 0 u)
    = iprop(barPay c 0 ∗ barPay c 1 ∗ barPay c 2) := by
  rw [Finset.sdiff_empty, duties_bar]
  exact bigSep_univ_eq_bigSepL [(0 : Fin 3), 1, 2] (by decide) (by decide) (fun u => barPay c u)
/-- All that a DMA cell is paid. -/
theorem rest_cell : bigSep ((talk inp).duties (cell f c k) 0 \ ∅) (fun u => (talk inp).payload (cell f c k) 0 u)
    = dmaPay inp c f k := by
  rw [Finset.sdiff_empty, duties_cell, bigSep_singleton, payload_cell]

end Tables

/-! ## What each core owes; the levels -/

/-- The cell that a core's payment credits: its barrier units, then the scatter's arrivals, then the gather's. -/
def payCell (c : Dev nD) (p k : Fin 3) : GSem nD τ sig :=
  match p with
  | 0 => barCell (up c k)
  | 1 => cell 1 (up c k) k
  | 2 => cell 3 (up c k) k
/-- and by how much. -/
def payAmt (p : Fin 3) : ℕ := match p with | 0 => 1 | _ => N

/-- Payment number `n`, in the order they are made. -/
def pay (c : Dev nD) (n : ℕ) : CellTallies nD τ sig Unit :=
  if h : n < 9 then tallyAt (payCell c ⟨n / 3, by omega⟩ ⟨n % 3, Nat.mod_lt _ (by decide)⟩) () (payAmt ⟨n / 3, by omega⟩) else 0

/-- What a core owes when it has made `n` payments. -/
def debt (c : Dev nD) (n : ℕ) : CellTallies nD τ sig Unit := ∑ j ∈ Finset.Ico n 9, pay c j

/-- Making one payment takes it off what is owed. -/
theorem debt_step (c : Dev nD) (p k : Fin 3) :
    debt c (3 * p.val + k.val) = debt c (3 * p.val + k.val + 1) + tallyAt (payCell c p k) () (payAmt p) := by
  have hp := p.isLt; have hk := k.isLt
  unfold debt
  rw [Finset.sum_eq_sum_Ico_succ_bot (by omega), add_comm]
  congr 1
  unfold pay
  rw [dif_pos (by omega)]
  have h1 : (⟨(3 * p.val + k.val) / 3, by omega⟩ : Fin 3) = p := Fin.ext (by show (3 * p.val + k.val) / 3 = p.val; omega)
  have h2 : (⟨(3 * p.val + k.val) % 3, Nat.mod_lt _ (by decide)⟩ : Fin 3) = k := Fin.ext (by show (3 * p.val + k.val) % 3 = k.val; omega)
  rw [h1, h2]
/-- After nine payments nothing is owed. -/
theorem debt_done (c : Dev nD) : debt c 9 = 0 := by unfold debt; rw [Finset.Ico_self, Finset.sum_empty]

/-- One index for each cell of a core, none elsewhere. -/
def L (g : GSem nD τ sig) : Finset Unit := if g.1.2 = .tc then {()} else ∅
/-- Barrier cells at 1, the scatter's arrivals at 2, the gather's at 3, the rest at 0. -/
def lv (g : GSem nD τ sig) (_ : Unit) : ℕ :=
  match g.2 with
  | .reg _ => 1
  | .dma q => match kindOf q with | some (1, _) => 2 | some (3, _) => 3 | _ => 0

/-- Cells that belong to no core have no index. -/
theorem L_of_ne (g : GSem nD τ sig) (h : g.1.2 ≠ .tc) : L g = ∅ := if_neg h
/-- Every cell of a core has the one index. -/
theorem L_tc (c : Dev nD) (sm : SemLoc sig) : L ((c : Thread nD τ), sm) = {()} := if_pos rfl

/-- The cell of a payment of phase `p` is at level `p + 1`. -/
theorem lv_pay (c : Dev nD) (p k : Fin 3) (u : Unit) : lv (payCell c p k) u = p.val + 1 := by
  match p with
  | 0 => rfl
  | 1 => dsimp only [lv, payCell]; rw [kindOf_semOf]; rfl
  | 2 => dsimp only [lv, payCell]; rw [kindOf_semOf]; rfl
/-- The cell of a payment has the one index. -/
theorem L_pay (c : Dev nD) (p k : Fin 3) : L (payCell c p k) = {()} := by
  match p with
  | 0 => exact L_tc _ _
  | 1 => exact L_tc _ _
  | 2 => exact L_tc _ _

/-- What is still owed is one of the payments still to make. -/
theorem debt_pos {c : Dev nD} {n : ℕ} {g : GSem nD τ sig} {u : Unit} (h : 0 < debt c n g u) :
    ∃ p k : Fin 3, n ≤ 3 * p.val + k.val ∧ g = payCell c p k := by
  unfold debt at h
  rw [Finset.sum_apply, Finsupp.finset_sum_apply] at h
  obtain ⟨j, hj, hpos⟩ := Finset.exists_ne_zero_of_sum_ne_zero (Nat.pos_iff_ne_zero.mp h)
  obtain ⟨h1, h2⟩ := Finset.mem_Ico.mp hj
  refine ⟨⟨j / 3, by omega⟩, ⟨j % 3, Nat.mod_lt _ (by decide)⟩, by show n ≤ 3 * (j / 3) + j % 3; omega, ?_⟩
  unfold pay at hpos
  rw [dif_pos h2, tallyAt_apply] at hpos
  by_contra hne
  exact hpos (if_neg fun hh => hne hh.1)

/-- A core that has made its first `3 * p` payments may wait for its own arrivals of family `p`. -/
theorem mayWait (c : Dev nD) (p : Fin 3) (sm : SemLoc sig) (hsm : lv ((c : Thread nD τ), sm) () = p.val) (n : ℕ) (hn : 3 * p.val ≤ n) :
    (levAts L lv : sProp 𝕄) ⊢ MayWait (c : Thread nD τ) sm () (debt c n) :=
  MayOwe.of_cut (L := L) (lev := lv) p.val (fun q hq => by rw [Finset.mem_singleton.mp hq, L_tc]; exact Finset.mem_singleton_self _)
    (fun g u hg => by
      obtain ⟨p', k, -, rfl⟩ := debt_pos hg
      rw [L_pay]; exact Finset.mem_singleton_self _)
    (fun q hq => by rw [Finset.mem_singleton.mp hq]; exact hsm.le)
    (fun g u hg => by
      obtain ⟨p', k, hle, rfl⟩ := debt_pos hg
      rw [lv_pay]; have := k.isLt; omega)

end Cert.KernelIdeal.Run

end
-- ==== Proof.Steps.lean ====
/- The steps of the attention kernel's talk, each once for every slot: a barrier signal, the barrier wait, a copy out
   and a wait for a copy. -/
module

public import proofs.«01_k».proof.Proof.Common

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (inp : Dev nD → Inp F)

/-- One member of a conjunction over a finite type. -/
theorem bigSep_pick {I : Type} [Fintype I] [DecidableEq I] (i : I) (Φ : I → sProp 𝕄) : bigSep Finset.univ Φ ⊢ Φ i :=
  bigSep_elim (Finset.mem_univ i)

/-! ## The cells' invariants -/

/-- Every cell's invariant, at the names that the launch allocated them at. -/
def invs (K : GSem nD τ sig → ℕ) : sProp 𝕄 :=
  bigSep Finset.univ fun c : Dev nD => iprop(cellInv ER (talk inp) (K (barCell c)) (barCell c)
    ∗ bigSep Finset.univ fun p : Fin 4 × Fin 3 => cellInv ER (talk inp) (K (cell p.1 c p.2)) (cell p.1 c p.2))

/-- The invariants may be consulted any number of times. -/
instance invs_persistent (K : GSem nD τ sig → ℕ) : BI.Persistent (invs inp K) := by unfold invs; infer_instance

/-- A barrier cell's invariant is among them. -/
theorem inv_bar (K : GSem nD τ sig → ℕ) (c : Dev nD) : invs inp K ⊢ cellInv ER (talk inp) (K (barCell c)) (barCell c) := by
  unfold invs
  refine (bigSep_pick c _).trans ?_
  iintro ⟨H, -⟩
  iexact H

/-- A DMA cell's invariant is among them. -/
theorem inv_cell (K : GSem nD τ sig → ℕ) (f : Fin 4) (c : Dev nD) (k : Fin 3) :
    invs inp K ⊢ cellInv ER (talk inp) (K (cell f c k)) (cell f c k) := by
  unfold invs
  refine (bigSep_pick c _).trans ?_
  iintro ⟨-, H⟩
  iapply (bigSep_pick ((f, k) : Fin 4 × Fin 3) fun p => cellInv ER (talk inp) (K (cell p.1 c p.2)) (cell p.1 c p.2)) $$ H

/-- What a core owes when it has made `n` payments, whatever it has waited for. -/
def owing (c : Dev nD) (n : ℕ) : sProp 𝕄 := iprop(∃ W, owes (c : Thread nD τ) (debt c n) W)

/-- A signal to the barrier cell of the device `k + 1` further round: it pays that device's duty `2 - k` with the signaller's
    own two slots `2 - k`, which that device is the one to write. -/
theorem signal_step (K : GSem nD τ sig → ℕ) (c : Dev nD) (k : Fin 3) (n : Dev nD) (hn : n = up c k)
    {α : Type} (rest : PUnit → Prog (TpuEff nD τ sig (Elt F) Λ₀ .tc) α) (Q : α → sProp 𝕄) :
    iprop(invs inp K ∗ owing c (3 * (0 : Fin 3).val + k.val) ∗ dutyTok ER (barCell (up c k)) 0 k.rev ∗ reached ER (barCell (up c k)) 0
        ∗ (∃ f, rsPts c k.rev f) ∗ (∃ f, agPts c k.rev f) ∗ reached ER (cell 1 c k.rev) 0 ∗ reached ER (cell 3 c k.rev) 0)
      ⊢ iprop((owing c (3 * (0 : Fin 3).val + k.val + 1) -∗ wp frame (wpE (defs₀ (F := F)) 𝒱₀ c none) Set.univ (rest ⟨⟩) Q)
        -∗ wp frame (wpE (defs₀ (F := F)) 𝒱₀ c none) Set.univ (.op (.semSignal (n : Thread nD τ) barrier0 1) rest) Q) := by
  subst hn
  unfold owing
  iintro ⟨#HI, ⟨%W, HO⟩, Ht, #Hr, Hrs, Hag, #H1, #H3⟩ Hk
  iapply (Rounds.wp_signal 𝒱₀ ER (talk inp) (c : Thread nD τ) none (dst := (up c k : Thread nD τ)) (sem := barrier0) (r := 0) (d := k.rev)
      (κ := K (barCell (up c k))) (by rw [duties_bar]; exact Finset.mem_univ _) (amount_bar inp (up c k) k.rev) ()
      (debt c (3 * (0 : Fin 3).val + k.val + 1)) (debt_step c 0 k)) $$ [HO Ht Hrs Hag]
  · isplitr; · iapply (inv_bar inp K (up c k)) $$ HI
    isplitl [HO]; · iexact HO
    isplitl [Ht]; · iexact Ht
    isplitl [Hrs Hag]
    · rw [payload_bar]; unfold barPay; rw [up_up_rev]
      isplitl [Hrs]; · iexact Hrs
      isplitl [Hag]; · iexact Hag
      isplitr; · iexact H1
      iexact H3
    · iexact Hr
  iintro HO
  iapply Hk
  iexists W; iexact HO

/-- The barrier wait: the three devices that this one writes to have handed over their slots. -/
theorem barrier_step (K : GSem nD τ sig → ℕ) (c : Dev nD) {α : Type} (rest : PUnit → Prog (TpuEff nD τ sig (Elt F) Λ₀ .tc) α) (Q : α → sProp 𝕄) :
    iprop(invs inp K ∗ levAts L lv ∗ cred (tallyAt (barCell c) () 3) ∗ owing c 3 ∗ atPos ER (barCell c) 0 ∅ 0)
      ⊢ iprop(((owing c 3 ∗ atPos ER (barCell c) (0 + 1) ∅ 0 ∗ barPay c 0 ∗ barPay c 1 ∗ barPay c 2)
          -∗ wp frame (wpE (defs₀ (F := F)) 𝒱₀ c none) Set.univ (rest ⟨⟩) Q)
        -∗ wp frame (wpE (defs₀ (F := F)) 𝒱₀ c none) Set.univ (.op (.semWait barrier0 3) rest) Q) := by
  unfold owing
  iintro ⟨#HI, #Hlev, Hc, ⟨%W, HO⟩, Hat⟩ Hk
  iapply (Rounds.wp_wait_rest_token 𝒱₀ ER (talk inp) (c : Thread nD τ) none (κ := K (barCell c))
      (wpE_semWait_eq 𝒱₀ (c : Thread nD τ) none Set.univ) (Set.mem_univ _) () (O := debt c 3) (W := W) (R := 0) (m := 0) (T := ∅)
      ((Nat.zero_add 3).trans (expect_bar inp c).symm)) $$ [Hc HO Hat]
  · isplitr; · iapply (inv_bar inp K c) $$ HI
    isplitl [Hc]; · iexact Hc
    isplitl [HO]; · iexact HO
    isplitr; · iapply (mayWait c 1 (.reg barrier0) rfl 3 le_rfl) $$ Hlev
    iexact Hat
  iintro ⟨HO, Hat, -, Hpay⟩
  ihave Hp := (Entails.of_eq (rest_bar inp c)) $$ Hpay
  iapply Hk
  isplitl [HO]; · iexists _; iexact HO
  isplitl [Hat]; · iexact Hat
  iexact Hp

/-- A wait for one of the kernel's own DMA cells: what was paid to it comes. -/
theorem wait_step (K : GSem nD τ sig → ℕ) (c : Dev nD) (f : Fin 4) (k : Fin 3) (n : ℕ)
    (hlv : (levAts L lv : sProp 𝕄) ⊢ MayWait (c : Thread nD τ) (.dma (semOf f k)) () (debt c n))
    {sp sp' : Space} {s s' : Shape} {e e' : EltTy} (sem : DmaSem sig) (hsem : sem = semOf f k)
    {src : Memref sig .tc sp' s' e'} {dst : Memref sig .tc sp s e} {hsrc : src.view.WordExact} {hdst : dst.view.WordExact}
    (hN : dst.view.dmaCredit = N) {α : Type} (rest : PUnit → Prog (TpuEff nD τ sig (Elt F) Λ₀ .tc) α) (Q : α → sProp 𝕄) :
    iprop(invs inp K ∗ levAts L lv ∗ cred (tallyAt (cell f c k) () N) ∗ owing c n ∗ atPos ER (cell f c k) 0 ∅ 0)
      ⊢ iprop(((owing c n ∗ atPos ER (cell f c k) (0 + 1) ∅ 0 ∗ dmaPay inp c f k)
          -∗ wp frame (wpE (defs₀ (F := F)) 𝒱₀ c none) Set.univ (rest ⟨⟩) Q)
        -∗ wp frame (wpE (defs₀ (F := F)) 𝒱₀ c none) Set.univ (.op (.waitDma2 sem src dst hsrc hdst) rest) Q) := by
  subst hsem
  unfold owing
  iintro ⟨#HI, #Hlev, Hc, ⟨%W, HO⟩, Hat⟩ Hk
  iapply (Rounds.wp_wait_rest_token 𝒱₀ ER (talk inp) (c : Thread nD τ) none (κ := K (cell f c k))
      (wpE_waitDma2_eq (src := src) (dst := dst) 𝒱₀ (c : Thread nD τ) none Set.univ) (Set.mem_univ _) () (O := debt c n) (W := W) (R := 0) (m := 0) (T := ∅)
      ((Nat.zero_add _).trans (hN.trans (expect_cell inp c f k).symm))) $$ [Hc HO Hat]
  · isplitr; · iapply (inv_cell inp K f c k) $$ HI
    isplitl [Hc]; · rw [hN]; iexact Hc
    isplitl [HO]; · iexact HO
    isplitr; · iapply hlv $$ Hlev
    iexact Hat
  iintro ⟨HO, Hat, -, Hpay⟩
  ihave Hp := (Entails.of_eq (rest_cell inp c f k)) $$ Hpay
  iapply Hk
  isplitl [HO]; · iexists _; iexact HO
  isplitl [Hat]; · iexact Hat
  iexact Hp

/-- A core that owes nothing may wait for anything. -/
theorem mayWait_done (c : Dev nD) (sm : SemLoc sig) : (levAts L lv : sProp 𝕄) ⊢ MayWait (c : Thread nD τ) sm () (debt c 9) := by
  rw [debt_done, MayWait_zero]; iintro -; iempintro

/-- What lands in a scatter slot: the sender's rows for the device it lands on. -/
theorem rs_landed (c : Dev nD) (k : Fin 3) (fd : Buf (Elt F) ((rsV k).view.loc (up c k : Thread nD τ))) :
    (rsPts (up c k) k ((rsV k).view.write (Elt F) fd ((pV (up c k)).view.read (Elt F) (pbf (inp c))) Finset.univ) : sProp 𝕄)
      ⊢ dmaPay inp (up c k) 1 k := by
  show _ ⊢ iprop(∃ f, ⌜(rsV k).view.read (Elt F) f = rowsOf (up c k) (pbf (inp (dn (up c k) k)))⌝ ∗ rsPts (up c k) k f)
  rw [dn_up]
  iintro H
  iexists ((rsV k).view.write (Elt F) fd ((pV (up c k)).view.read (Elt F) (pbf (inp c))) Finset.univ)
  isplitr
  · ipureintro
    exact View.read_write_univ _ _
  iexact H

/-- What lands in a gather slot: the sender's summed row block. -/
theorem ag_landed (c : Dev nD) (k : Fin 3) (fd : Buf (Elt F) ((agV k).view.loc (up c k : Thread nD τ))) :
    (agPts (up c k) k ((agV k).view.write (Elt F) fd (gM.view.read (Elt F) (agq inp c)) Finset.univ) : sProp 𝕄)
      ⊢ dmaPay inp (up c k) 3 k := by
  show _ ⊢ iprop(∃ f, ⌜(agV k).view.read (Elt F) f = agq inp (dn (up c k) k)⌝ ∗ agPts (up c k) k f)
  rw [dn_up]
  iintro H
  iexists ((agV k).view.write (Elt F) fd (gM.view.read (Elt F) (agq inp c)) Finset.univ)
  isplitr
  · ipureintro
    exact View.read_write_univ _ _
  iexact H

/-- A copy of the scatter: the rows of the device `k + 1` further round, into its slot `k`. -/
theorem scatter_step (K : GSem nD τ sig → ℕ) (c : Dev nD) (k : Fin 3) (n : Dev nD) (hn : n = up c k)
    (src : Memref sig .tc .vmem S128x768 .bf16) (hsrc : src = pV (up c k)) (dst : Memref sig .tc .vmem S128x768 .bf16) (hdst : dst = rsV k)
    (sS : DmaSem sig) (hsS : sS = semOf 0 k) (sem : DmaSem sig) (hsem : sem = semOf 1 k)
    {hsc : dst.view.ref.isScScratch = false} {hs : src.view.WordExact} {hd : dst.view.WordExact}
    {ht : DmaTarget.Typed .vmem (SemLoc.dma sem) (.remote (n : Thread nD τ) dst (.dma sS) hsc)}
    {α : Type} (rest : PUnit → Prog (TpuEff nD τ sig (Elt F) Λ₀ .tc) α) (Q : α → sProp 𝕄) :
    iprop(invs inp K ∗ owing c (3 * (1 : Fin 3).val + k.val) ∗ pPts c (up c k) (pbf (inp c)) ∗ (∃ f, rsPts (up c k) k f)
        ∗ dutyTok ER (cell 0 c k) 0 0 ∗ reached ER (cell 0 c k) 0 ∗ dutyTok ER (cell 1 (up c k) k) 0 0 ∗ reached ER (cell 1 (up c k) k) 0)
      ⊢ iprop(((cred (tallyAt (cell 0 c k) () N) ∗ owing c (3 * (1 : Fin 3).val + k.val + 1))
          -∗ wp frame (wpE (defs₀ (F := F)) 𝒱₀ c none) Set.univ (rest ⟨⟩) Q)
        -∗ wp frame (wpE (defs₀ (F := F)) 𝒱₀ c none) Set.univ
          (.op (.enqueueDma src (.remote (n : Thread nD τ) dst (.dma sS) hsc) (.dma sem) hs hd ht) rest) Q) := by
  subst hn hsrc hdst hsS hsem
  unfold owing
  iintro ⟨#HI, ⟨%W, HO⟩, Hp, ⟨%fd, Hrs⟩, Ht0, #Hr0, Ht1, #Hr1⟩ Hk
  iapply (Rounds.wp_send_pointsTo 𝒱₀ ER (talk inp) (c : Thread nD τ) none (c' := (up c k : Thread nD τ)) (src := pV (up c k)) (dst := rsV k)
      (sS := .dma (semOf 0 k)) (sem := .dma (semOf 1 k)) (q := fullShare) (fs := pbf (inp c)) (κ₁ := K (cell 0 c k)) (κ₂ := K (cell 1 (up c k) k))
      (r₁ := 0) (r₂ := 0) (d₁ := 0) (d₂ := 0) (fd := fd)
      (by rw [duties_cell]; exact Finset.mem_singleton_self _) (by rw [duties_cell]; exact Finset.mem_singleton_self _)
      () () N rfl (amount_cell inp c 0 k 0) (amount_cell inp (up c k) 1 k 0) (debt c (3 * (1 : Fin 3).val + k.val + 1)) (debt_step c 1 k) (W := W)
      (by rw [payload_cell]; exact BI.Entails.refl _)
      (by rw [payload_cell]; exact rs_landed inp c k fd)) $$ [Hp Hrs HO Ht0 Ht1]
  · isplitr; · iapply (inv_cell inp K 0 c k) $$ HI
    isplitr; · iapply (inv_cell inp K 1 (up c k) k) $$ HI
    isplitl [Hp]; · iexact Hp
    isplitl [Hrs]; · iexact Hrs
    isplitl [HO]; · iexact HO
    isplitl [Ht0]; · iexact Ht0
    isplitr; · iexact Hr0
    isplitl [Ht1]; · iexact Ht1
    iexact Hr1
  iintro ⟨Hc, HO⟩
  iapply Hk
  isplitl [Hc]; · iexact Hc
  iexists W; iexact HO

/-- A copy of the gather: the summed row block, into the slot `k` of the device `k + 1` further round. -/
theorem gather_step (K : GSem nD τ sig → ℕ) (c : Dev nD) (k : Fin 3) (n : Dev nD) (hn : n = up c k)
    (dst : Memref sig .tc .vmem S128x768 .bf16) (hdst : dst = agV k)
    (sS : DmaSem sig) (hsS : sS = semOf 2 k) (sem : DmaSem sig) (hsem : sem = semOf 3 k)
    {hsc : dst.view.ref.isScScratch = false} {hs : gM.view.WordExact} {hd : dst.view.WordExact}
    {ht : DmaTarget.Typed .vmem (SemLoc.dma sem) (.remote (n : Thread nD τ) dst (.dma sS) hsc)}
    {α : Type} (rest : PUnit → Prog (TpuEff nD τ sig (Elt F) Λ₀ .tc) α) (Q : α → sProp 𝕄) :
    iprop(invs inp K ∗ owing c (3 * (2 : Fin 3).val + k.val) ∗ gPts c (third k) (agq inp c) ∗ (∃ f, agPts (up c k) k f)
        ∗ dutyTok ER (cell 2 c k) 0 0 ∗ reached ER (cell 2 c k) 0 ∗ dutyTok ER (cell 3 (up c k) k) 0 0 ∗ reached ER (cell 3 (up c k) k) 0)
      ⊢ iprop(((cred (tallyAt (cell 2 c k) () N) ∗ owing c (3 * (2 : Fin 3).val + k.val + 1))
          -∗ wp frame (wpE (defs₀ (F := F)) 𝒱₀ c none) Set.univ (rest ⟨⟩) Q)
        -∗ wp frame (wpE (defs₀ (F := F)) 𝒱₀ c none) Set.univ
          (.op (.enqueueDma gM (.remote (n : Thread nD τ) dst (.dma sS) hsc) (.dma sem) hs hd ht) rest) Q) := by
  subst hn hdst hsS hsem
  unfold owing
  iintro ⟨#HI, ⟨%W, HO⟩, Hp, ⟨%fd, Hrs⟩, Ht0, #Hr0, Ht1, #Hr1⟩ Hk
  iapply (Rounds.wp_send_pointsTo 𝒱₀ ER (talk inp) (c : Thread nD τ) none (c' := (up c k : Thread nD τ)) (src := gM) (dst := agV k)
      (sS := .dma (semOf 2 k)) (sem := .dma (semOf 3 k)) (q := third k) (fs := agq inp c) (κ₁ := K (cell 2 c k)) (κ₂ := K (cell 3 (up c k) k))
      (r₁ := 0) (r₂ := 0) (d₁ := 0) (d₂ := 0) (fd := fd)
      (by rw [duties_cell]; exact Finset.mem_singleton_self _) (by rw [duties_cell]; exact Finset.mem_singleton_self _)
      () () N rfl (amount_cell inp c 2 k 0) (amount_cell inp (up c k) 3 k 0) (debt c (3 * (2 : Fin 3).val + k.val + 1)) (debt_step c 2 k) (W := W)
      (by rw [payload_cell]; exact BI.Entails.refl _)
      (by rw [payload_cell]; exact ag_landed inp c k fd)) $$ [Hp Hrs HO Ht0 Ht1]
  · isplitr; · iapply (inv_cell inp K 2 c k) $$ HI
    isplitr; · iapply (inv_cell inp K 3 (up c k) k) $$ HI
    isplitl [Hp]; · iexact Hp
    isplitl [Hrs]; · iexact Hrs
    isplitl [HO]; · iexact HO
    isplitl [Ht0]; · iexact Ht0
    isplitr; · iexact Hr0
    isplitl [Ht1]; · iexact Ht1
    iexact Hr1
  iintro ⟨Hc, HO⟩
  iapply Hk
  isplitl [Hc]; · iexact Hc
  iexists W; iexact HO

end Cert.KernelIdeal.Run

end
-- ==== Proof.Buffers.lean ====
/- The buffers of the attention kernel cut into the blocks that its copies move, read and written block by block, and put
   together again; and its cells, closed. -/
module

public import proofs.«01_k».proof.Proof.Steps
public import Idealize.ShloMosaic.Lib.VecWindow
public import Idealize.ShloMosaic.Lib.Ring
public import Idealize.ShloMosaic.Lib.Ring.Trips

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (inp : Dev nD → Inp F)

/-- A whole buffer of device `c` at the contents `f`. -/
abbrev pt (c : Dev nD) (b : Ref sig .tc) (f : b.ty.Contents (Elt F)) : sProp 𝕄 :=
  (Memref.whole b).view.loc (c : Thread nD τ) ↦{fullShare} f

/-- Three of a kind. -/
def per3 (Φ : Fin 3 → sProp 𝕄) : sProp 𝕄 := iprop(Φ 0 ∗ Φ 1 ∗ Φ 2)

/-! ## Sets of elements -/

/-- The elements of a scatter slot. -/
theorem set_rsV (k : Fin 3) : (rsV k).view.set = (slotRect k).set :=
  (View.set_reshape _ _).trans (View.set_slice_whole cc0_scratch2 (slotRect k))
/-- The elements of a gather slot. -/
theorem set_agV (k : Fin 3) : (agV k).view.set = (slotRect k).set :=
  (View.set_reshape _ _).trans (View.set_slice_whole cc0_scratch4 (slotRect k))
/-- The elements of a device's rows of the partial product. -/
theorem set_pV (e : Dev nD) : (pV e).view.set = (rowRect e).set := View.set_slice_whole cc0_scratch1 (rowRect e)

/-- An element is in slot `k` when its first coordinate is `k`. -/
theorem mem_slot (k : Fin 3) (y : S3x128x768.Idx) : y ∈ (slotRect k).set ↔ (y 0).val = k.val := by
  have h1 : (y 1).val < 128 := (y 1).isLt
  have h2 : (y 2).val < 768 := (y 2).isLt
  rw [Rect.mem_set_unit]
  constructor
  · intro h; have := h 0; simp at this; omega
  · intro h a
    match a with
    | 0 => constructor <;> simp <;> omega
    | 1 => constructor <;> simp <;> omega
    | 2 => constructor <;> simp <;> omega

/-- An element is in device `e`'s rows when its row is in the `e`-th 128. -/
theorem mem_row (e : Dev nD) (y : S512x768.Idx) : y ∈ (rowRect e).set ↔ (y 0).val / 128 = e.val := by
  have h1 : (y 1).val < 768 := (y 1).isLt
  rw [Rect.mem_set_unit]
  constructor
  · intro h; have := h 0; simp at this; omega
  · intro h a
    match a with
    | 0 => constructor <;> simp <;> omega
    | 1 => constructor <;> simp <;> omega

/-- Two slots have no element in common. -/
theorem slot_disj (k k' : Fin 3) (h : k ≠ k') : Disjoint (slotRect k).set (slotRect k').set :=
  Finset.disjoint_left.mpr fun y hy hy' => h (Fin.ext (((mem_slot k y).mp hy).symm.trans ((mem_slot k' y).mp hy')))
/-- The three slots are the whole buffer. -/
theorem slot_cover : Finset.univ.biUnion (fun k : Fin 3 => (slotRect k).set) = Finset.univ :=
  Finset.eq_univ_of_forall fun y => Finset.mem_biUnion.mpr ⟨⟨(y 0).val, (y 0).isLt⟩, Finset.mem_univ _, (mem_slot _ y).mpr rfl⟩
/-- Two devices' rows have no element in common. -/
theorem row_disj (e e' : Dev nD) (h : e ≠ e') : Disjoint (rowRect e).set (rowRect e').set :=
  Finset.disjoint_left.mpr fun y hy hy' => h (Fin.ext (((mem_row e y).mp hy).symm.trans ((mem_row e' y).mp hy')))
/-- The four devices' rows are all the rows. -/
theorem row_cover : Finset.univ.biUnion (fun e : Dev nD => (rowRect e).set) = Finset.univ :=
  Finset.eq_univ_of_forall fun y => Finset.mem_biUnion.mpr
    ⟨⟨(y 0).val / 128, by have : (y 0).val < 512 := (y 0).isLt; show _ < 4; omega⟩, Finset.mem_univ _, (mem_row _ y).mpr rfl⟩

/-- The scatter's slots are its whole buffer. -/
theorem rs_cover : Finset.biUnion (β := S3x128x768.Idx) Finset.univ (fun k : Fin 3 => (rsV k).view.set) = Finset.univ :=
  (congrArg (Finset.biUnion (β := S3x128x768.Idx) Finset.univ) (funext set_rsV)).trans slot_cover
/-- The gather's slots are its whole buffer. -/
theorem ag_cover : Finset.biUnion (β := S3x128x768.Idx) Finset.univ (fun k : Fin 3 => (agV k).view.set) = Finset.univ :=
  (congrArg (Finset.biUnion (β := S3x128x768.Idx) Finset.univ) (funext set_agV)).trans slot_cover
/-- The devices' rows are the whole partial product. -/
theorem p_cover : Finset.biUnion (β := S512x768.Idx) Finset.univ (fun e : Dev nD => (pV e).view.set) = Finset.univ :=
  (congrArg (Finset.biUnion (β := S512x768.Idx) Finset.univ) (funext set_pV)).trans row_cover

/-! ## Cutting and joining -/

/-- A conjunction over three, written out. -/
theorem per3_eq (Φ : Fin 3 → sProp 𝕄) : bigSep Finset.univ Φ = per3 Φ := by
  rw [bigSep_univ_eq_bigSepL [0, 1, 2] (by decide) (by decide)]
  rfl

/-- Three of a kind, put together. -/
theorem per3_join {Φ : Fin 3 → sProp 𝕄} : (per3 Φ : sProp 𝕄) ⊢ bigSep Finset.univ Φ := Entails.of_eq (per3_eq Φ).symm
/-- Three of a kind, taken apart. -/
theorem per3_cut {Φ : Fin 3 → sProp 𝕄} : bigSep Finset.univ Φ ⊢ (per3 Φ : sProp 𝕄) := Entails.of_eq (per3_eq Φ)

/-- The scatter's buffer is cut into its slots. -/
theorem rs_split (c : Dev nD) (f : cc0_scratch2.ty.Contents (Elt F)) :
    pt c cc0_scratch2 f ⊢ (per3 fun k => iprop(∃ f, rsPts c k f) : sProp 𝕄) := by
  refine (Entails.of_eq (Ring.pointsTo_blocks (ℓ := rsM.view.loc (c : Thread nD τ)) (fun k : Fin 3 => (rsV k).view.set)
    (fun k k' h => by rw [set_rsV, set_rsV]; exact slot_disj k k' h) rs_cover f)).trans ?_
  refine BIBase.Entails.trans (bigSep_mono (Ψ := fun k => _) fun k _ => ?_) per3_cut
  exact (show rsPts c k f ⊢ iprop(∃ f, rsPts c k f) by iintro H; iexists f; iexact H)

/-- The gather's buffer is cut into its slots. -/
theorem ag_split (c : Dev nD) (f : cc0_scratch4.ty.Contents (Elt F)) :
    pt c cc0_scratch4 f ⊢ (per3 fun k => iprop(∃ f, agPts c k f) : sProp 𝕄) := by
  refine (Entails.of_eq (Ring.pointsTo_blocks (ℓ := agM.view.loc (c : Thread nD τ)) (fun k : Fin 3 => (agV k).view.set)
    (fun k k' h => by rw [set_agV, set_agV]; exact slot_disj k k' h) ag_cover f)).trans ?_
  refine BIBase.Entails.trans (bigSep_mono (Ψ := fun k => _) fun k _ => ?_) per3_cut
  exact (show agPts c k f ⊢ iprop(∃ f, agPts c k f) by iintro H; iexists f; iexact H)

/-- The slots of the scatter's buffer, at anything, are the buffer at something. -/
theorem rs_join (c : Dev nD) (f₀ : cc0_scratch2.ty.Contents (Elt F)) :
    (per3 fun k => iprop(∃ f, rsPts c k f)) ⊢ (iprop(∃ f, pt c cc0_scratch2 f) : sProp 𝕄) :=
  per3_join.trans (Ring.pointsTo_blocks_join_exists (ℓ := rsM.view.loc (c : Thread nD τ)) (fun k : Fin 3 => (rsV k).view.set)
    (fun k k' h => by rw [set_rsV, set_rsV]; exact slot_disj k k' h) rs_cover f₀)

/-- The slots of the gather's buffer, at anything, are the buffer at something. -/
theorem ag_join (c : Dev nD) (f₀ : cc0_scratch4.ty.Contents (Elt F)) :
    (per3 fun k => iprop(∃ f, agPts c k f)) ⊢ (iprop(∃ f, pt c cc0_scratch4 f) : sProp 𝕄) :=
  per3_join.trans (Ring.pointsTo_blocks_join_exists (ℓ := agM.view.loc (c : Thread nD τ)) (fun k : Fin 3 => (agV k).view.set)
    (fun k k' h => by rw [set_agV, set_agV]; exact slot_disj k k' h) ag_cover f₀)

/-- A device and the three others. -/
theorem devs_eq (c : Dev nD) (Φ : Dev nD → sProp 𝕄) :
    bigSep Finset.univ Φ = iprop(Φ c ∗ Φ (up c 0) ∗ Φ (up c 1) ∗ Φ (up c 2)) := by
  rw [bigSep_univ_eq_bigSepL [c, up c 0, up c 1, up c 2] (by revert c; decide +kernel) (by revert c; decide +kernel)]
  rfl

/-- The partial product's buffer is its four row blocks: the core's own, and those it sends. -/
theorem p_rows (c : Dev nD) (f : cc0_scratch1.ty.Contents (Elt F)) :
    (pt c cc0_scratch1 f : sProp 𝕄) = iprop(pPts c c f ∗ pPts c (up c 0) f ∗ pPts c (up c 1) f ∗ pPts c (up c 2) f) := by
  refine (Ring.pointsTo_blocks (ℓ := pM.view.loc (c : Thread nD τ)) (fun e : Dev nD => (pV e).view.set)
    (fun k k' h => by rw [set_pV, set_pV]; exact row_disj k k' h) p_cover f).trans ?_
  exact devs_eq c fun e => pPts c e f

/-- The rounded sum at the full share is the three parts that the copies under way hold. -/
theorem g_thirds (c : Dev nD) (f : cc0_scratch3.ty.Contents (Elt F)) :
    (pt c cc0_scratch3 f : sProp 𝕄) ⊣⊢ iprop(gPts c (third 0) f ∗ gPts c (third 1) f ∗ gPts c (third 2) f) := by
  have h := Ring.pointsTo_thirds (ℓ := gM.view.loc (c : Thread nD τ)) (I := Finset.univ) fullShare f (Ix := Unit) (Name := ℕ) (U := UU) (Lvl := ℕ) (Val := Elt F)
  unfold gPts
  rw [View.set_whole]
  exact h

/-! ## What the stores leave -/

/-- A store over the whole of the partial product's buffer leaves its payload. -/
theorem stored_p (fp w : Vec F S512x768 .bf16) (inb : ∀ a, (![0, 0] : Fin 2 → ℕ) a + S512x768.size a ≤ S512x768.size a) :
    (Memref.whole cc0_scratch1).view.writes (Elt F) fp [⟨Rect.unit ![0, 0] S512x768.size inb, w⟩] = w :=
  (View.read_whole (Val := Elt F) cc0_scratch1 _).symm.trans (View.read_writes_full (Memref.whole cc0_scratch1).view fp inb w [])

/-- A store over the whole of the rounded sum's buffer leaves its payload. -/
theorem stored_g (fg w : Vec F S128x768 .bf16) (inb : ∀ a, (![0, 0] : Fin 2 → ℕ) a + S128x768.size a ≤ S128x768.size a) :
    (Memref.whole cc0_scratch3).view.writes (Elt F) fg [⟨Rect.unit ![0, 0] S128x768.size inb, w⟩] = w :=
  (View.read_whole (Val := Elt F) cc0_scratch3 _).symm.trans (View.read_writes_full (Memref.whole cc0_scratch3).view fg inb w [])

/-- A device is the core itself or one of its three senders. -/
theorem devs_cover (c e : Dev nD) : e = c ∨ e = dn c 0 ∨ e = dn c 1 ∨ e = dn c 2 := by revert c e; decide +kernel

/-- A row block of the result, as `outC` has it. -/
theorem outBlk_outC (c e : Dev nD) (x : S128x768.Idx) : outBlk inp c e x = outC inp c ((rowRect e).emb x) := by
  have h0 : (x 0).val < 128 := (x 0).isLt
  have e0 : ((rowRect e).emb x 0).val = 128 * e.val + (x 0).val := by rw [Rect.emb_apply]; simp [Rect.unit]
  have e1 : ((rowRect e).emb x 1).val = (x 1).val := by rw [Rect.emb_apply]; simp [Rect.unit]
  have a0 : (⟨((rowRect e).emb x 0).val / 128, by rw [e0]; have := e.isLt; change _ < 4 at this; show _ < 4; omega⟩ : Dev nD) = e :=
    Fin.ext (by show ((rowRect e).emb x 0).val / 128 = e.val; rw [e0]; omega)
  unfold outC
  rw [a0]
  congr 1
  funext a
  match a with
  | 0 => exact Fin.ext (by show (x 0).val = ((rowRect e).emb x 0).val % 128; rw [e0]; omega)
  | 1 => exact Fin.ext e1.symm

/-- The result's stores, the last first: one row block each. -/
theorem stored_out (c : Dev nD) (fo : Vec F S512x768 .f32) {o o0 o1 o2 : Fin 2 → ℕ}
    (ho : o = ![128 * c.val, 0]) (h0 : o0 = ![128 * (dn c 0).val, 0]) (h1 : o1 = ![128 * (dn c 1).val, 0]) (h2 : o2 = ![128 * (dn c 2).val, 0])
    {i : ∀ a, o a + S128x768.size a ≤ S512x768.size a} {i0 : ∀ a, o0 a + S128x768.size a ≤ S512x768.size a}
    {i1 : ∀ a, o1 a + S128x768.size a ≤ S512x768.size a} {i2 : ∀ a, o2 a + S128x768.size a ≤ S512x768.size a}
    {w w0 w1 w2 : Vec F S128x768 .f32} (hw : w = outBlk inp c c) (hw0 : w0 = outBlk inp c (dn c 0)) (hw1 : w1 = outBlk inp c (dn c 1))
    (hw2 : w2 = outBlk inp c (dn c 2)) :
    (Memref.whole cc0_stg5_0).view.writes (Elt F) fo [⟨Rect.unit (s := S512x768) o2 S128x768.size i2, w2⟩,
      ⟨Rect.unit (s := S512x768) o1 S128x768.size i1, w1⟩, ⟨Rect.unit (s := S512x768) o0 S128x768.size i0, w0⟩,
      ⟨Rect.unit (s := S512x768) o S128x768.size i, w⟩] = outC inp c := by
  subst ho h0 h1 h2 hw hw0 hw1 hw2
  refine (View.read_whole (Val := Elt F) cc0_stg5_0 _).symm.trans (funext fun y => ?_)
  refine View.read_writes_apply_of_pieces _ _ (outC inp c) ([dn c 2, dn c 1, dn c 0, c].map fun e => ⟨rowRect e, outBlk inp c e⟩) ?_ y ?_
  · intro p hp
    obtain ⟨e, -, rfl⟩ := List.mem_map.mp hp
    exact outBlk_outC inp c e
  · have hy : (y 0).val < 512 := (y 0).isLt
    refine ⟨_, List.mem_map_of_mem (a := (⟨(y 0).val / 128, by show _ < 4; omega⟩ : Dev nD)) ?_, (mem_row _ y).mpr rfl⟩
    rcases devs_cover c (⟨(y 0).val / 128, by show _ < 4; omega⟩ : Dev nD) with h | h | h | h <;> rw [h] <;> simp

/-! ## Closing the cells -/

/-- A barrier cell whose round is over gives back its counter at zero. -/
theorem close_bar (K : GSem nD τ sig → ℕ) (c : Dev nD) :
    iprop(invs inp K ∗ atPos ER (barCell c) (0 + 1) ∅ 0) ⊢ (iprop(|={Set.univ}=> semVal (barCell c) 0) : sProp 𝕄) := by
  iintro ⟨#HI, Hat⟩
  iapply (Rounds.cell_close ER (talk inp) (κ := K (barCell c)) (Es := Set.univ) (R := 1) (Set.mem_univ _) id (duties_later inp (barCell c)))
  isplitr; · iapply (inv_bar inp K c) $$ HI
  iexact Hat

/-- A DMA cell whose round is over gives back its counter at zero. -/
theorem close_cell (K : GSem nD τ sig → ℕ) (f : Fin 4) (c : Dev nD) (k : Fin 3) :
    iprop(invs inp K ∗ atPos ER (cell f c k) (0 + 1) ∅ 0) ⊢ (iprop(|={Set.univ}=> semVal (cell f c k) 0) : sProp 𝕄) := by
  iintro ⟨#HI, Hat⟩
  iapply (Rounds.cell_close ER (talk inp) (κ := K (cell f c k)) (Es := Set.univ) (R := 1) (Set.mem_univ _) id (duties_later inp (cell f c k)))
  isplitr; · iapply (inv_cell inp K f c k) $$ HI
  iexact Hat

/-- The four cells of slot `k`, at zero. -/
def closedSlot (c : Dev nD) (k : Fin 3) : sProp 𝕄 :=
  iprop(semVal (cell 0 c k) 0 ∗ semVal (cell 1 c k) 0 ∗ semVal (cell 2 c k) 0 ∗ semVal (cell 3 c k) 0)
/-- A core's positions on the four cells of slot `k`, when all is done. -/
def doneSlot (c : Dev nD) (k : Fin 3) : sProp 𝕄 :=
  iprop(atPos ER (cell 0 c k) (0 + 1) ∅ 0 ∗ atPos ER (cell 1 c k) (0 + 1) ∅ 0 ∗ atPos ER (cell 2 c k) (0 + 1) ∅ 0 ∗ atPos ER (cell 3 c k) (0 + 1) ∅ 0)

/-- The four cells of a slot give back their counters at zero. -/
theorem close_slot (K : GSem nD τ sig → ℕ) (c : Dev nD) (k : Fin 3) :
    iprop(invs inp K ∗ doneSlot c k) ⊢ (iprop(|={Set.univ}=> closedSlot c k) : sProp 𝕄) := by
  unfold doneSlot closedSlot
  iintro ⟨#HI, H0, H1, H2, H3⟩
  imod (close_cell inp K 0 c k) $$ [H0] with H0
  · isplitr; · iexact HI
    iexact H0
  imod (close_cell inp K 1 c k) $$ [H1] with H1
  · isplitr; · iexact HI
    iexact H1
  imod (close_cell inp K 2 c k) $$ [H2] with H2
  · isplitr; · iexact HI
    iexact H2
  imod (close_cell inp K 3 c k) $$ [H3] with H3
  · isplitr; · iexact HI
    iexact H3
  imodintro
  isplitl [H0]; · iexact H0
  isplitl [H1]; · iexact H1
  isplitl [H2]; · iexact H2
  iexact H3

/-- All a core's cells, at zero. -/
def closedAll (c : Dev nD) : sProp 𝕄 := iprop(semVal (barCell c) 0 ∗ per3 (closedSlot c))

/-- All a core's cells give back their counters at zero. -/
theorem close_all (K : GSem nD τ sig → ℕ) (c : Dev nD) :
    iprop(invs inp K ∗ atPos ER (barCell c) (0 + 1) ∅ 0 ∗ per3 (doneSlot c)) ⊢ (iprop(|={Set.univ}=> closedAll c) : sProp 𝕄) := by
  unfold closedAll per3
  iintro ⟨#HI, HB, H0, H1, H2⟩
  imod (close_bar inp K c) $$ [HB] with HB
  · isplitr; · iexact HI
    iexact HB
  imod (close_slot inp K c 0) $$ [H0] with H0
  · isplitr; · iexact HI
    iexact H0
  imod (close_slot inp K c 1) $$ [H1] with H1
  · isplitr; · iexact HI
    iexact H1
  imod (close_slot inp K c 2) $$ [H2] with H2
  · isplitr; · iexact HI
    iexact H2
  imodintro
  isplitl [HB]; · iexact HB
  isplitl [H0]; · iexact H0
  isplitl [H1]; · iexact H1
  iexact H2

end Cert.KernelIdeal.Run

end
-- ==== Proof.Body.lean ====
/- The run of the attention kernel's body on one device. -/
module

public import proofs.«01_k».proof.Proof.Buffers

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (inp : Dev nD → Inp F)

/-- The body as the pipeline calls it. -/
abbrev theBody : Prog (TpuEff nD τ sig (Elt F) Λ₀ .tc) PUnit :=
  cc0_body xM (Memref.isWhole_whole _) wqM (Memref.isWhole_whole _) ktM (Memref.isWhole_whole _) vM (Memref.isWhole_whole _)
    woM (Memref.isWhole_whole _) outM (Memref.isWhole_whole _) oM (Memref.isWhole_whole _) pM (Memref.isWhole_whole _)
    rsM (Memref.isWhole_whole _) gM (Memref.isWhole_whole _) agM (Memref.isWhole_whole _) cc0_scratch5 cc0_scratch6 cc0_scratch7 cc0_scratch8

/-! ## What the body takes and what it gives back -/

/-- Per slot: the tokens of the payments that the core makes, that their cells are at round 0, its positions on its own cells,
    and the credit of the two arrivals. -/
def slotGhost (c : Dev nD) (k : Fin 3) : sProp 𝕄 :=
  iprop(reached ER (barCell (up c k)) 0 ∗ dutyTok ER (barCell (up c k)) 0 k.rev
    ∗ dutyTok ER (cell 0 c k) 0 0 ∗ dutyTok ER (cell 1 (up c k) k) 0 0 ∗ dutyTok ER (cell 2 c k) 0 0 ∗ dutyTok ER (cell 3 (up c k) k) 0 0
    ∗ cred (tallyAt (cell 1 c k) () N) ∗ cred (tallyAt (cell 3 c k) () N))

/-- A core's positions on its own cells of slot `k`, all four just opened. -/
def slotOpen (c : Dev nD) (k : Fin 3) : sProp 𝕄 :=
  iprop((atPos ER (cell 0 c k) 0 ∅ 0 ∗ reached ER (cell 0 c k) 0) ∗ (atPos ER (cell 1 c k) 0 ∅ 0 ∗ reached ER (cell 1 c k) 0)
    ∗ (atPos ER (cell 2 c k) 0 ∅ 0 ∗ reached ER (cell 2 c k) 0) ∗ (atPos ER (cell 3 c k) 0 ∅ 0 ∗ reached ER (cell 3 c k) 0))

/-- The protocol's part of what the body takes. -/
def talkIn (K : GSem nD τ sig → ℕ) (c : Dev nD) : sProp 𝕄 :=
  iprop(invs inp K ∗ levAts L lv ∗ owing c 0 ∗ atPos ER (barCell c) 0 ∅ 0 ∗ cred (tallyAt (barCell c) () 3)
    ∗ per3 (slotGhost c) ∗ per3 (slotOpen c))

/-- The five inputs, at what they hold. -/
def inputs (c : Dev nD) : sProp 𝕄 :=
  iprop(pt c cc0_stg0_0 (inp c).x ∗ pt c cc0_stg1_0 (inp c).wq ∗ pt c cc0_stg2_0 (inp c).kt ∗ pt c cc0_stg3_0 (inp c).v
    ∗ pt c cc0_stg4_0 (inp c).wo)

/-- The five scratch buffers, at anything. -/
def scratch (c : Dev nD) : sProp 𝕄 :=
  iprop((∃ f, pt c cc0_scratch0 f) ∗ (∃ f, pt c cc0_scratch1 f) ∗ (∃ f, pt c cc0_scratch2 f) ∗ (∃ f, pt c cc0_scratch3 f)
    ∗ (∃ f, pt c cc0_scratch4 f))

/-- A head's rectangle, its payload agreeing with the heads side by side. -/
theorem headRect_attn (i : Inp F) (b : Fin 2) (h : Fin 8) (x : (headRect b h).shape.Idx) :
    headAt i b h x = attn i ((headRect b h).emb x) := by
  have h0 : (x 0).val < 256 := (x 0).isLt
  have h1 : (x 1).val < 64 := (x 1).isLt
  have e0 : ((headRect b h).emb x 0).val = 256 * b.val + (x 0).val := by
    rw [Rect.emb_apply]; simp [Rect.unit]
  have e1 : ((headRect b h).emb x 1).val = 64 * h.val + (x 1).val := by
    rw [Rect.emb_apply]; simp [Rect.unit]
  unfold attn
  have a0 : (⟨((headRect b h).emb x 0).val / 256, by rw [e0]; have := b.isLt; omega⟩ : Fin 2) = b := Fin.ext (by simp only [e0]; omega)
  have a1 : (⟨((headRect b h).emb x 1).val / 64, by rw [e1]; have := h.isLt; omega⟩ : Fin 8) = h := Fin.ext (by simp only [e1]; omega)
  rw [a0, a1]
  congr 1
  funext a
  match a with
  | 0 => exact Fin.ext (by show (x 0).val = ((headRect b h).emb x 0).val % 256; rw [e0]; omega)
  | 1 => exact Fin.ext (by show (x 1).val = ((headRect b h).emb x 1).val % 64; rw [e1]; omega)

/-- Every element of the heads side by side belongs to a head. -/
theorem headRect_cover (y : S512x512.Idx) : ∃ b h, y ∈ (headRect b h).set := by
  have h0 : (y 0).val < 512 := (y 0).isLt
  have h1 : (y 1).val < 512 := (y 1).isLt
  refine ⟨⟨(y 0).val / 256, by omega⟩, ⟨(y 1).val / 64, by omega⟩, ?_⟩
  rw [Rect.mem_set_unit]
  intro a
  match a with
  | 0 => constructor <;> simp <;> omega
  | 1 => constructor <;> simp <;> omega

/-- The order in which the heads are stored, the last first. -/
def headOrder : List (Fin 2 × Fin 8) :=
  [(1, 7), (1, 6), (1, 5), (1, 4), (1, 3), (1, 2), (1, 1), (1, 0), (0, 7), (0, 6), (0, 5), (0, 4), (0, 3), (0, 2), (0, 1), (0, 0)]

/-- The heads' stores, the last first. -/
def headList (i : Inp F) : List (View.Piece (Elt F) S512x512 .bf16) :=
  headOrder.map fun p => ⟨headRect p.1 p.2, headAt i p.1 p.2⟩

/-- A load of the whole buffer after the heads' stores reads the heads side by side. -/
theorem readCov_attn (i : Inp F) (inb : ∀ a, (![0, 0] : Fin 2 → ℕ) a + S512x512.size a ≤ S512x512.size a) :
    oM.view.readCov (headList i) (Rect.unit ![0, 0] S512x512.size inb).toLoadRect = attn i := by
  refine (View.readAt_full _ _ _).trans (funext fun y => View.read_writes_apply_of_pieces _ _ (attn i) (headList i) ?_ y ?_)
  · intro p hp
    obtain ⟨q, -, rfl⟩ := List.mem_map.mp hp
    exact headRect_attn i q.1 q.2
  · obtain ⟨b, h, hy⟩ := headRect_cover y
    exact ⟨_, List.mem_map_of_mem (a := (b, h)) (by clear hy; revert b h; decide), hy⟩

/-- The store of the heads against the output projection leaves the partial product. -/
theorem stored_pM (i : Inp F) (fp : Vec F S512x768 .bf16) (a : Vec F S512x512 .bf16) (b : Vec F S512x768 .bf16) (ha : a = attn i) (hb : b = i.wo)
    (inb : ∀ a, (![0, 0] : Fin 2 → ℕ) a + S512x768.size a ≤ S512x768.size a) :
    (Memref.whole cc0_scratch1).view.writes (Elt F) fp [⟨Rect.unit ![0, 0] S512x768.size inb, k0_pay33 a b⟩] = pbf i := by
  rw [ha, hb, stored_p]
  rfl

/-- A wait for a scatter's arrival, made once the scatter's copies are under way. -/
theorem mayWait_rs (c : Dev nD) (k : Fin 3) :
    (levAts L lv : sProp 𝕄) ⊢ MayWait (c : Thread nD τ) (.dma (semOf 1 k)) () (debt c 6) := mayWait c 2 _ (by unfold lv; simp only [kindOf_semOf]; rfl) 6 (by decide)

/-- What a scatter's arrival hands over. -/
theorem rs_pay (c : Dev nD) (k : Fin 3) : dmaPay inp c 1 k
    ⊢ (iprop(∃ f, ⌜(rsV k).view.read (Elt F) f = rowsOf c (pbf (inp (dn c k)))⌝ ∗ rsPts c k f) : sProp 𝕄) := Entails.of_eq rfl
/-- What a gather's arrival hands over. -/
theorem ag_pay (c : Dev nD) (k : Fin 3) : dmaPay inp c 3 k
    ⊢ (iprop(∃ f, ⌜(agV k).view.read (Elt F) f = agq inp (dn c k)⌝ ∗ agPts c k f) : sProp 𝕄) := Entails.of_eq rfl
/-- What a scatter's departure hands back. -/
theorem rs_back (c : Dev nD) (k : Fin 3) : dmaPay inp c 0 k ⊢ (pPts c (up c k) (pbf (inp c)) : sProp 𝕄) := Entails.of_eq rfl
/-- What a gather's departure hands back. -/
theorem ag_back (c : Dev nD) (k : Fin 3) : dmaPay inp c 2 k ⊢ (gPts c (third k) (agq inp c) : sProp 𝕄) := Entails.of_eq rfl

/-- A load of the core's own rows of the partial product reads them. -/
theorem own_read (c : Dev nD) (f : Vec F S512x768 .bf16) {off : Fin 2 → ℕ} (hoff : off = ![128 * c.val, 0])
    (inb : ∀ a, off a + S128x768.size a ≤ S512x768.size a) :
    pM.view.readAt (Elt F) (Rect.unit (s := S512x768) off S128x768.size inb).toLoadRect f = rowsOf c f := by
  subst hoff; rfl

/-- The sum of the core's own rows and of what landed in the three scatter slots. -/
theorem acc_loaded (c : Dev nD) (inb : ∀ a, (k0_off2 c) a + S128x768.size a ≤ S512x768.size a)
    (f0 f1 f2 : Vec F S3x128x768 .bf16)
    (h0 : (rsV 0).view.read (Elt F) f0 = rowsOf c (pbf (inp (dn c 0)))) (h1 : (rsV 1).view.read (Elt F) f1 = rowsOf c (pbf (inp (dn c 1))))
    (h2 : (rsV 2).view.read (Elt F) f2 = rowsOf c (pbf (inp (dn c 2)))) :
    k0_pay35 (k0_pay34 (pM.view.readAt (Elt F) (Rect.unit (s := S512x768) (k0_off2 c) S128x768.size inb).toLoadRect (pbf (inp c)))
        (rsM.view.readAt (Elt F) (slotRect 0).toLoadRect f0))
      (rsM.view.readAt (Elt F) (slotRect 1).toLoadRect f1) (rsM.view.readAt (Elt F) (slotRect 2).toLoadRect f2) = acc inp c := by
  have g0 : shapeCast S128x768 (rsM.view.readAt (Elt F) (slotRect 0).toLoadRect f0) shapeCasts_S1x128x768_S128x768 = _ := h0
  have g1 : shapeCast S128x768 (rsM.view.readAt (Elt F) (slotRect 1).toLoadRect f1) shapeCasts_S1x128x768_S128x768 = _ := h1
  have g2 : shapeCast S128x768 (rsM.view.readAt (Elt F) (slotRect 2).toLoadRect f2) shapeCasts_S1x128x768_S128x768 = _ := h2
  unfold k0_pay35 k0_pay34 acc
  rw [own_read c _ (off2 c), g0, g1, g2]

/-- The store of the rounded sum leaves it in its buffer. -/
theorem stored_gM (c : Dev nD) (fg : Vec F S128x768 .bf16) (w : Vec F S128x768 .bf16) (hw : w = agq inp c)
    (inb : ∀ a, (![0, 0] : Fin 2 → ℕ) a + S128x768.size a ≤ S128x768.size a) :
    (Memref.whole cc0_scratch3).view.writes (Elt F) fg [⟨Rect.unit ![0, 0] S128x768.size inb, w⟩] = agq inp c := by
  rw [stored_g, hw]

/-- The same sum, rounded, as it is stored. -/
theorem agq_loaded (c : Dev nD) (inb : ∀ a, (k0_off2 c) a + S128x768.size a ≤ S512x768.size a)
    (f0 f1 f2 : Vec F S3x128x768 .bf16)
    (h0 : (rsV 0).view.read (Elt F) f0 = rowsOf c (pbf (inp (dn c 0)))) (h1 : (rsV 1).view.read (Elt F) f1 = rowsOf c (pbf (inp (dn c 1))))
    (h2 : (rsV 2).view.read (Elt F) f2 = rowsOf c (pbf (inp (dn c 2)))) :
    k0_pay36 (k0_pay34 (pM.view.readAt (Elt F) (Rect.unit (s := S512x768) (k0_off2 c) S128x768.size inb).toLoadRect (pbf (inp c)))
        (rsM.view.readAt (Elt F) (slotRect 0).toLoadRect f0))
      (rsM.view.readAt (Elt F) (slotRect 1).toLoadRect f1) (rsM.view.readAt (Elt F) (slotRect 2).toLoadRect f2) = agq inp c := by
  unfold agq
  rw [← acc_loaded inp c inb f0 f1 f2 h0 h1 h2]
  rfl

/-- No neighbour is the core itself. -/
theorem dn_ne (c : Dev nD) (k : Fin 3) : dn c k ≠ c := by revert c k; decide +kernel

/-- A row block that came round, widened. -/
theorem gathered (c : Dev nD) (k : Fin 3) (e : Vec F S3x128x768 .bf16) (he : (agV k).view.read (Elt F) e = agq inp (dn c k)) :
    k0_pay37 (agM.view.readAt (Elt F) (slotRect k).toLoadRect e) = outBlk inp c (dn c k) := by
  have g : shapeCast S128x768 (agM.view.readAt (Elt F) (slotRect k).toLoadRect e) shapeCasts_S1x128x768_S128x768 = _ := he
  unfold k0_pay37 outBlk
  rw [g, if_neg (dn_ne c k)]

/-- A wait for a scatter copy's departure. -/
theorem back_step (K : GSem nD τ sig → ℕ) (c : Dev nD) (k : Fin 3) (sem : DmaSem sig) (hsem : sem = semOf 0 k)
    {sp' : Space} {s' : Shape} {e' : EltTy} {src : Memref sig .tc sp' s' e'} (dst : Memref sig .tc .vmem S128x768 .bf16) (hdst : dst = pV (up c k))
    {hsrc : src.view.WordExact} {hd : dst.view.WordExact} {α : Type} (rest : PUnit → Prog (TpuEff nD τ sig (Elt F) Λ₀ .tc) α) (Q : α → sProp 𝕄) :
    iprop(invs inp K ∗ levAts L lv ∗ cred (tallyAt (cell 0 c k) () N) ∗ owing c 9 ∗ atPos ER (cell 0 c k) 0 ∅ 0)
      ⊢ iprop(((owing c 9 ∗ atPos ER (cell 0 c k) (0 + 1) ∅ 0 ∗ dmaPay inp c 0 k)
          -∗ wp frame (wpE (defs₀ (F := F)) 𝒱₀ c none) Set.univ (rest ⟨⟩) Q)
        -∗ wp frame (wpE (defs₀ (F := F)) 𝒱₀ c none) Set.univ (.op (.waitDma2 sem src dst hsrc hd) rest) Q) := by
  subst hdst
  exact wait_step inp K c 0 k 9 (mayWait_done c _) sem hsem (dst := pV (up c k)) rfl rest Q

set_option maxHeartbeats 8000000 in
/-- The body's run on one core: from its inputs and its part of the talk it ends owing nothing, with its cells closed, its
    inputs unchanged and its result at `outC`. -/
theorem bodyRun (K : GSem nD τ sig → ℕ) (c : Dev nD) (Kt : PUnit → sProp 𝕄) :
    iprop(talkIn inp K c ∗ inputs inp c ∗ (∃ f, pt c cc0_stg5_0 f) ∗ scratch c
        ∗ ((owing c 9 ∗ closedAll c ∗ inputs inp c ∗ pt c cc0_stg5_0 (outC inp c) ∗ scratch c) -∗ Kt ⟨⟩))
      ⊢ wp frame (wpE (defs₀ (F := F)) 𝒱₀ c none) Set.univ (theBody (F := F)) Kt := by
  unfold theBody
  rw [cc0_body_eq_skeleton]
  unfold cc0_body_skel
  rw [k0_part1_eq_skeleton, k0_part2_eq_skeleton]
  unfold k0_part1_skel k0_part2_skel
  simp only [semSignalWord, Prog.lift, Prog.bind_op, Prog.bind_ret, Prog.pure_eq_ret, wp_deviceId]
  unfold talkIn inputs scratch per3 slotGhost slotOpen
  iintro ⟨⟨#HI, #Hlev, HO, HatB, HcB, ⟨⟨#HrB0, HtB0, Ht00, Ht10, Ht20, Ht30, Hc10, Hc30⟩, ⟨#HrB1, HtB1, Ht01, Ht11, Ht21, Ht31, Hc11, Hc31⟩,
      ⟨#HrB2, HtB2, Ht02, Ht12, Ht22, Ht32, Hc12, Hc32⟩⟩,
      ⟨⟨⟨Hat00, #Hr00⟩, ⟨Hat10, #Hr10⟩, ⟨Hat20, #Hr20⟩, ⟨Hat30, #Hr30⟩⟩, ⟨⟨Hat01, #Hr01⟩, ⟨Hat11, #Hr11⟩, ⟨Hat21, #Hr21⟩, ⟨Hat31, #Hr31⟩⟩,
       ⟨⟨Hat02, #Hr02⟩, ⟨Hat12, #Hr12⟩, ⟨Hat22, #Hr22⟩, ⟨Hat32, #Hr32⟩⟩⟩⟩,
    ⟨Hx, Hwq, Hkt, Hv, Hwo⟩, ⟨%fout, Hout⟩, ⟨⟨%fo, Ho⟩, ⟨%fp, Hp⟩, ⟨%frs, Hrs⟩, ⟨%fg, Hg⟩, ⟨%fag, Hag⟩⟩, Hk⟩
  ihave Hrs3 := (rs_split c frs) $$ Hrs
  ihave Hag3 := (ag_split c fag) $$ Hag
  unfold per3
  icases Hrs3 with ⟨Hrs0, Hrs1, Hrs2⟩
  icases Hag3 with ⟨Hag0, Hag1, Hag2⟩
  -- the three signals
  iapply (signal_step inp K c 0 _ (dev1 c) _ _) $$ [HO HtB0 Hrs2 Hag2]
  · isplitr; · iexact HI
    isplitl [HO]; · iexact HO
    isplitl [HtB0]; · iexact HtB0
    isplitr; · iexact HrB0
    isplitl [Hrs2]; · iexact Hrs2
    isplitl [Hag2]; · iexact Hag2
    isplitr; · iexact Hr12
    iexact Hr32
  iintro HO
  iapply (signal_step inp K c 1 _ (dev2 c) _ _) $$ [HO HtB1 Hrs1 Hag1]
  · isplitr; · iexact HI
    isplitl [HO]; · iexact HO
    isplitl [HtB1]; · iexact HtB1
    isplitr; · iexact HrB1
    isplitl [Hrs1]; · iexact Hrs1
    isplitl [Hag1]; · iexact Hag1
    isplitr; · iexact Hr11
    iexact Hr31
  iintro HO
  iapply (signal_step inp K c 2 _ (dev3 c) _ _) $$ [HO HtB2 Hrs0 Hag0]
  · isplitr; · iexact HI
    isplitl [HO]; · iexact HO
    isplitl [HtB2]; · iexact HtB2
    isplitr; · iexact HrB2
    isplitl [Hrs0]; · iexact Hrs0
    isplitl [Hag0]; · iexact Hag0
    isplitr; · iexact Hr10
    iexact Hr30
  iintro HO
  sl_exec
  -- what the heads' stores and the product's store leave
  rw [stored_pM (inp c) fp (bodyRun.sl.v417 inp c) (bodyRun.sl.r_11 inp c) ?ha ?hb]
  case ha =>
    have hx : View.readAt (Elt F) (Memref.whole cc0_stg0_0).view (Rect.unit ![0, 0] ![512, 768] inb_S512x768_S512x768_0_0).toLoadRect (inp c).1
        = (inp c).x := View.readAt_full xM.view (inp c).x inb_S512x768_S512x768_0_0
    have hq : View.readAt (Elt F) (Memref.whole cc0_stg1_0).view (Rect.unit ![0, 0] ![768, 512] inb_S768x512_S768x512_0_0).toLoadRect (inp c).2
        = (inp c).wq := View.readAt_full wqM.view (inp c).wq inb_S768x512_S768x512_0_0
    have hL : bodyRun.sl.Ho_16 inp c = headList (inp c) := by
      unfold bodyRun.sl.Ho_16 bodyRun.sl.r_10 bodyRun.sl.r_9 bodyRun.sl.r_8 bodyRun.sl.r_7 bodyRun.sl.r_6 bodyRun.sl.r_5 bodyRun.sl.r_4 bodyRun.sl.r_2 bodyRun.sl.r_3 bodyRun.sl.r_1 bodyRun.sl.r bodyRun.sl.x bodyRun.sl.x_1
      rw [hx, hq]
      rfl
    unfold bodyRun.sl.v417
    rw [hL]
    exact readCov_attn (inp c) _
  case hb =>
    unfold bodyRun.sl.r_11
    exact View.readAt_full _ _ _
  iapply (barrier_step inp K c _ _) $$ [HO HcB HatB]
  · isplitr; · iexact HI
    isplitr; · iexact Hlev
    isplitl [HcB]; · iexact HcB
    isplitl [HO]; · iexact HO
    iexact HatB
  iintro ⟨HO, HatB, Hb0, Hb1, Hb2⟩
  sl_exec
  unfold barPay
  icases Hb0 with ⟨Hu0, Hw0, #Hs10, #Hs30⟩
  icases Hb1 with ⟨Hu1, Hw1, #Hs11, #Hs31⟩
  icases Hb2 with ⟨Hu2, Hw2, #Hs12, #Hs32⟩
  -- the scatter
  ihave Hp' := (Entails.of_eq (p_rows c (pbf (inp c)))) $$ Hp
  icases Hp' with ⟨Hpc, Hp0, Hp1, Hp2⟩
  iapply (scatter_step inp K c 0 _ (dev4 c) _ (Memref.slice_unit_congr pM (off1 c 0) _ _ _ _) _ rfl _ rfl _ rfl _ _) $$ [HO Hp0 Hu0 Ht00 Ht10]
  · isplitr; · iexact HI
    isplitl [HO]; · iexact HO
    isplitl [Hp0]; · iexact Hp0
    isplitl [Hu0]; · iexact Hu0
    isplitl [Ht00]; · iexact Ht00
    isplitr; · iexact Hr00
    isplitl [Ht10]; · iexact Ht10
    iexact Hs10
  iintro ⟨Hc00, HO⟩
  sl_exec
  iapply (scatter_step inp K c 1 _ (dev5 c) _ (Memref.slice_unit_congr pM (off1 c 1) _ _ _ _) _ rfl _ rfl _ rfl _ _) $$ [HO Hp1 Hu1 Ht01 Ht11]
  · isplitr; · iexact HI
    isplitl [HO]; · iexact HO
    isplitl [Hp1]; · iexact Hp1
    isplitl [Hu1]; · iexact Hu1
    isplitl [Ht01]; · iexact Ht01
    isplitr; · iexact Hr01
    isplitl [Ht11]; · iexact Ht11
    iexact Hs11
  iintro ⟨Hc01, HO⟩
  sl_exec
  iapply (scatter_step inp K c 2 _ (dev6 c) _ (Memref.slice_unit_congr pM (off1 c 2) _ _ _ _) _ rfl _ rfl _ rfl _ _) $$ [HO Hp2 Hu2 Ht02 Ht12]
  · isplitr; · iexact HI
    isplitl [HO]; · iexact HO
    isplitl [Hp2]; · iexact Hp2
    isplitl [Hu2]; · iexact Hu2
    isplitl [Ht02]; · iexact Ht02
    isplitr; · iexact Hr02
    isplitl [Ht12]; · iexact Ht12
    iexact Hs12
  iintro ⟨Hc02, HO⟩
  sl_exec
  iapply (wait_step inp K c 1 0 6 (mayWait_rs c 0) _ rfl (dst := rsV 0) rfl _ _) $$ [HO Hc10 Hat10]
  · isplitr; · iexact HI
    isplitr; · iexact Hlev
    isplitl [Hc10]; · iexact Hc10
    isplitl [HO]; · iexact HO
    iexact Hat10
  iintro ⟨HO, Hat10, Hpay⟩
  ihave Hq := (rs_pay inp c 0) $$ Hpay
  icases Hq with ⟨%f0, %hf0, Hs0⟩
  sl_exec
  iapply (wait_step inp K c 1 1 6 (mayWait_rs c 1) _ rfl (dst := rsV 1) rfl _ _) $$ [HO Hc11 Hat11]
  · isplitr; · iexact HI
    isplitr; · iexact Hlev
    isplitl [Hc11]; · iexact Hc11
    isplitl [HO]; · iexact HO
    iexact Hat11
  iintro ⟨HO, Hat11, Hpay⟩
  ihave Hq := (rs_pay inp c 1) $$ Hpay
  icases Hq with ⟨%f1, %hf1, Hs1⟩
  sl_exec
  iapply (wait_step inp K c 1 2 6 (mayWait_rs c 2) _ rfl (dst := rsV 2) rfl _ _) $$ [HO Hc12 Hat12]
  · isplitr; · iexact HI
    isplitr; · iexact Hlev
    isplitl [Hc12]; · iexact Hc12
    isplitl [HO]; · iexact HO
    iexact Hat12
  iintro ⟨HO, Hat12, Hpay⟩
  ihave Hq := (rs_pay inp c 2) $$ Hpay
  icases Hq with ⟨%f2, %hf2, Hs2⟩
  sl_exec
  -- what is summed, and what goes round
  have hacc : bodyRun.sl.r_13 inp c f0 f1 f2 = acc inp c := by
    unfold bodyRun.sl.r_13
    exact acc_loaded inp c _ f0 f1 f2 hf0 hf1 hf2
  rw [hacc]
  rw [stored_gM inp c fg (w := _) (hw := ?hg)]
  case hg =>
    unfold bodyRun.sl.r_12
    exact agq_loaded inp c _ f0 f1 f2 hf0 hf1 hf2
  -- the gather
  ihave Hg' := (g_thirds c (agq inp c)).1 $$ Hg
  icases Hg' with ⟨Hg0, Hg1, Hg2⟩
  iapply (gather_step inp K c 0 _ (dev7 c) _ rfl _ rfl _ rfl _ _) $$ [HO Hg0 Hw0 Ht20 Ht30]
  · isplitr; · iexact HI
    isplitl [HO]; · iexact HO
    isplitl [Hg0]; · iexact Hg0
    isplitl [Hw0]; · iexact Hw0
    isplitl [Ht20]; · iexact Ht20
    isplitr; · iexact Hr20
    isplitl [Ht30]; · iexact Ht30
    iexact Hs30
  iintro ⟨Hc20, HO⟩
  sl_exec
  iapply (gather_step inp K c 1 _ (dev8 c) _ rfl _ rfl _ rfl _ _) $$ [HO Hg1 Hw1 Ht21 Ht31]
  · isplitr; · iexact HI
    isplitl [HO]; · iexact HO
    isplitl [Hg1]; · iexact Hg1
    isplitl [Hw1]; · iexact Hw1
    isplitl [Ht21]; · iexact Ht21
    isplitr; · iexact Hr21
    isplitl [Ht31]; · iexact Ht31
    iexact Hs31
  iintro ⟨Hc21, HO⟩
  sl_exec
  iapply (gather_step inp K c 2 _ (dev9 c) _ rfl _ rfl _ rfl _ _) $$ [HO Hg2 Hw2 Ht22 Ht32]
  · isplitr; · iexact HI
    isplitl [HO]; · iexact HO
    isplitl [Hg2]; · iexact Hg2
    isplitl [Hw2]; · iexact Hw2
    isplitl [Ht22]; · iexact Ht22
    isplitr; · iexact Hr22
    isplitl [Ht32]; · iexact Ht32
    iexact Hs32
  iintro ⟨Hc22, HO⟩
  sl_exec
  iapply (wait_step inp K c 3 0 9 (mayWait_done c _) _ rfl (dst := agV 0) rfl _ _) $$ [HO Hc30 Hat30]
  · isplitr; · iexact HI
    isplitr; · iexact Hlev
    isplitl [Hc30]; · iexact Hc30
    isplitl [HO]; · iexact HO
    iexact Hat30
  iintro ⟨HO, Hat30, Hpay⟩
  ihave Hq := (ag_pay inp c 0) $$ Hpay
  icases Hq with ⟨%e0, %he0, Ha0⟩
  sl_exec
  iapply (wait_step inp K c 3 1 9 (mayWait_done c _) _ rfl (dst := agV 1) rfl _ _) $$ [HO Hc31 Hat31]
  · isplitr; · iexact HI
    isplitr; · iexact Hlev
    isplitl [Hc31]; · iexact Hc31
    isplitl [HO]; · iexact HO
    iexact Hat31
  iintro ⟨HO, Hat31, Hpay⟩
  ihave Hq := (ag_pay inp c 1) $$ Hpay
  icases Hq with ⟨%e1, %he1, Ha1⟩
  sl_exec
  iapply (wait_step inp K c 3 2 9 (mayWait_done c _) _ rfl (dst := agV 2) rfl _ _) $$ [HO Hc32 Hat32]
  · isplitr; · iexact HI
    isplitr; · iexact Hlev
    isplitl [Hc32]; · iexact Hc32
    isplitl [HO]; · iexact HO
    iexact Hat32
  iintro ⟨HO, Hat32, Hpay⟩
  ihave Hq := (ag_pay inp c 2) $$ Hpay
  icases Hq with ⟨%e2, %he2, Ha2⟩
  sl_exec
  -- the result
  have o0 : k0_off3 c 1#32 = ![128 * (dn c 0).val, 0] := off3 c 0
  have o1 : k0_off3 c 2#32 = ![128 * (dn c 1).val, 0] := off3 c 1
  have o2 : k0_off3 c 3#32 = ![128 * (dn c 2).val, 0] := off3 c 2
  rw [stored_out inp c fout (off2 c) o0 o1 o2 (w := _) (w0 := _) (w1 := _) (w2 := _) ?w ?w0 ?w1 ?w2]
  case w => exact (if_pos rfl).symm
  case w0 => exact gathered inp c 0 e0 he0
  case w1 => exact gathered inp c 1 e1 he1
  case w2 => exact gathered inp c 2 e2 he2
  -- the copies have left
  iapply (back_step inp K c 0 _ rfl _ (Memref.slice_unit_congr pM (off1 c 0) _ _ _ _) _ _) $$ [HO Hc00 Hat00]
  · isplitr; · iexact HI
    isplitr; · iexact Hlev
    isplitl [Hc00]; · iexact Hc00
    isplitl [HO]; · iexact HO
    iexact Hat00
  iintro ⟨HO, Hat00, Hpay⟩
  ihave Hp0 := (rs_back inp c 0) $$ Hpay
  sl_exec
  iapply (back_step inp K c 1 _ rfl _ (Memref.slice_unit_congr pM (off1 c 1) _ _ _ _) _ _) $$ [HO Hc01 Hat01]
  · isplitr; · iexact HI
    isplitr; · iexact Hlev
    isplitl [Hc01]; · iexact Hc01
    isplitl [HO]; · iexact HO
    iexact Hat01
  iintro ⟨HO, Hat01, Hpay⟩
  ihave Hp1 := (rs_back inp c 1) $$ Hpay
  sl_exec
  iapply (back_step inp K c 2 _ rfl _ (Memref.slice_unit_congr pM (off1 c 2) _ _ _ _) _ _) $$ [HO Hc02 Hat02]
  · isplitr; · iexact HI
    isplitr; · iexact Hlev
    isplitl [Hc02]; · iexact Hc02
    isplitl [HO]; · iexact HO
    iexact Hat02
  iintro ⟨HO, Hat02, Hpay⟩
  ihave Hp2 := (rs_back inp c 2) $$ Hpay
  sl_exec
  iapply (wait_step inp K c 2 0 9 (mayWait_done c _) _ rfl (dst := gM) rfl _ _) $$ [HO Hc20 Hat20]
  · isplitr; · iexact HI
    isplitr; · iexact Hlev
    isplitl [Hc20]; · iexact Hc20
    isplitl [HO]; · iexact HO
    iexact Hat20
  iintro ⟨HO, Hat20, Hpay⟩
  ihave Hg0 := (ag_back inp c 0) $$ Hpay
  sl_exec
  iapply (wait_step inp K c 2 1 9 (mayWait_done c _) _ rfl (dst := gM) rfl _ _) $$ [HO Hc21 Hat21]
  · isplitr; · iexact HI
    isplitr; · iexact Hlev
    isplitl [Hc21]; · iexact Hc21
    isplitl [HO]; · iexact HO
    iexact Hat21
  iintro ⟨HO, Hat21, Hpay⟩
  ihave Hg1 := (ag_back inp c 1) $$ Hpay
  sl_exec
  iapply (wait_step inp K c 2 2 9 (mayWait_done c _) _ rfl (dst := gM) rfl _ _) $$ [HO Hc22 Hat22]
  · isplitr; · iexact HI
    isplitr; · iexact Hlev
    isplitl [Hc22]; · iexact Hc22
    isplitl [HO]; · iexact HO
    iexact Hat22
  iintro ⟨HO, Hat22, Hpay⟩
  ihave Hg2 := (ag_back inp c 2) $$ Hpay
  -- the cells, back at zero
  imod (close_all inp K c) $$ [HatB Hat00 Hat01 Hat02 Hat10 Hat11 Hat12 Hat20 Hat21 Hat22 Hat30 Hat31 Hat32] with Hclosed
  · isplitr; · iexact HI
    isplitl [HatB]; · iexact HatB
    unfold per3 doneSlot
    isplitl [Hat00 Hat10 Hat20 Hat30]
    · isplitl [Hat00]; · iexact Hat00
      isplitl [Hat10]; · iexact Hat10
      isplitl [Hat20]; · iexact Hat20
      iexact Hat30
    isplitl [Hat01 Hat11 Hat21 Hat31]
    · isplitl [Hat01]; · iexact Hat01
      isplitl [Hat11]; · iexact Hat11
      isplitl [Hat21]; · iexact Hat21
      iexact Hat31
    · isplitl [Hat02]; · iexact Hat02
      isplitl [Hat12]; · iexact Hat12
      isplitl [Hat22]; · iexact Hat22
      iexact Hat32
  -- the buffers, whole again
  ihave Hp := (Entails.of_eq (p_rows c _).symm) $$ [Hpc Hp0 Hp1 Hp2]
  · isplitl [Hpc]; · iexact Hpc
    isplitl [Hp0]; · iexact Hp0
    isplitl [Hp1]; · iexact Hp1
    iexact Hp2
  ihave Hg := (g_thirds c _).2 $$ [Hg0 Hg1 Hg2]
  · isplitl [Hg0]; · iexact Hg0
    isplitl [Hg1]; · iexact Hg1
    iexact Hg2
  ihave Hrs := (rs_join c frs) $$ [Hs0 Hs1 Hs2]
  · unfold per3
    isplitl [Hs0]; · iexists f0; iexact Hs0
    isplitl [Hs1]; · iexists f1; iexact Hs1
    iexists f2; iexact Hs2
  ihave Hag := (ag_join c fag) $$ [Ha0 Ha1 Ha2]
  · unfold per3
    isplitl [Ha0]; · iexists e0; iexact Ha0
    isplitl [Ha1]; · iexists e1; iexact Ha1
    iexists e2; iexact Ha2
  rw [wp_ret]
  imodintro
  iapply Hk
  isplitl [HO]; · iexact HO
  isplitl [Hclosed]; · iexact Hclosed
  isplitl [Hx Hwq Hkt Hv Hwo]
  · isplitl [Hx]; · iexact Hx
    isplitl [Hwq]; · iexact Hwq
    isplitl [Hkt]; · iexact Hkt
    isplitl [Hv]; · iexact Hv
    iexact Hwo
  isplitl [Hout]; · iexact Hout
  isplitl [Ho]; · iexists _; iexact Ho
  isplitl [Hp]; · iexists _; iexact Hp
  isplitl [Hrs]; · iexact Hrs
  isplitl [Hg]; · iexists _; iexact Hg
  iexact Hag

end Cert.KernelIdeal.Run

end
-- ==== Proof.Region.lean ====
/- The attention kernel's region on one device: the pipeline's proof data, the body's obligation and the region's record. -/
module

public import proofs.«01_k».proof.Proof.Body
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the kernel is called on -/

/-- The kernel's inputs on each device: what the host operations before it leave. -/
def inp (c : Dev nD) : Inp F where
  x := V1 m c main_v17
  wq := V1 m c main_arg1
  kt := V1 m c main_v15
  v := V1 m c main_v16
  wo := V1 m c main_arg4

/-- The buffers after the region: the result's array at the sum over the devices. -/
def outs : Outs (F := F) := fun _ r c => Function.update (V1 m c) (Proc.devRef .tc main_v18) (outC (inp m) c) (Proc.devRef .tc r)

/-- After the region only the result's array differs from what the host left. -/
theorem V2_out (c : Dev nD) : V2 m (outs m) c = Function.update (V1 m c) (Proc.devRef .tc main_v18) (outC (inp m) c) := by
  unfold V2 outs
  rw [Function.update_self]

/-! ## The kernel's own semaphores -/

/-- By slot and family. -/
def osem (p : Fin 3 × Fin 4) : SemLoc sig := .dma (semOf p.2 p.1)

/-- A conjunction over four, written out. -/
theorem fin4_eq (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl

/-- The kernel's own semaphores are the cells of the three slots, at zero. -/
theorem ownSems_eq (c : Dev nD) : (Pipeline.ownSems0 osem c : sProp 𝕄) = per3 (closedSlot c) := by
  unfold Pipeline.ownSems0
  rw [bigSep_univ_prod, ← per3_eq]
  exact bigSep_congr fun k _ => by rw [fin4_eq]; rfl

/-- The rights to open the four cells of slot `k`. -/
def shutSlot (c : Dev nD) (k : Fin 3) : sProp 𝕄 :=
  iprop(openTok ER (cell 0 c k) ∗ openTok ER (cell 1 c k) ∗ openTok ER (cell 2 c k) ∗ openTok ER (cell 3 c k))

/-- A DMA cell is opened with its counter at zero and the right to open it. -/
theorem open_cell (K : GSem nD τ sig → ℕ) (f : Fin 4) (c : Dev nD) (k : Fin 3) :
    iprop(invs (inp m) K ∗ openTok ER (cell f c k) ∗ semVal (cell f c k) 0)
      ⊢ (iprop(|={Set.univ}=> (atPos ER (cell f c k) 0 ∅ 0 ∗ reached ER (cell f c k) 0)) : sProp 𝕄) := by
  iintro ⟨#HI, Ho, Hs⟩
  iapply (Rounds.cell_open ER (talk (inp m)) (g := cell f c k) (Set.mem_univ (K (cell f c k))))
  isplitr; · iapply (inv_cell (inp m) K f c k) $$ HI
  isplitl [Ho] <;> iassumption

/-- The four cells of a slot are opened. -/
theorem open_slot (K : GSem nD τ sig → ℕ) (c : Dev nD) (k : Fin 3) :
    iprop(invs (inp m) K ∗ shutSlot c k ∗ closedSlot c k) ⊢ (iprop(|={Set.univ}=> slotOpen c k) : sProp 𝕄) := by
  unfold shutSlot closedSlot slotOpen
  iintro ⟨#HI, ⟨O0, O1, O2, O3⟩, S0, S1, S2, S3⟩
  imod (open_cell m K 0 c k) $$ [O0 S0] with H0
  · isplitr; · iexact HI
    isplitl [O0] <;> iassumption
  imod (open_cell m K 1 c k) $$ [O1 S1] with H1
  · isplitr; · iexact HI
    isplitl [O1] <;> iassumption
  imod (open_cell m K 2 c k) $$ [O2 S2] with H2
  · isplitr; · iexact HI
    isplitl [O2] <;> iassumption
  imod (open_cell m K 3 c k) $$ [O3 S3] with H3
  · isplitr; · iexact HI
    isplitl [O3] <;> iassumption
  imodintro
  isplitl [H0]; · iexact H0
  isplitl [H1]; · iexact H1
  isplitl [H2]; · iexact H2
  iexact H3

/-! ## What the launch deals, and what enters the region -/

/-- From the launch: the invariants, the barrier position and credit, the tokens and the rights to open. -/
def dealt (c : Dev nD) : sProp 𝕄 :=
  iprop(∃ K, invs (inp m) K ∗ atPos ER (barCell c) 0 ∅ 0 ∗ cred (tallyAt (barCell c) () 3)
    ∗ per3 (slotGhost c) ∗ per3 (shutSlot c))

/-- The same with the cells open: what the body starts from, its debt apart. -/
def opened (c : Dev nD) : sProp 𝕄 :=
  iprop(∃ K, invs (inp m) K ∗ levAts L lv ∗ atPos ER (barCell c) 0 ∅ 0 ∗ cred (tallyAt (barCell c) () 3)
    ∗ per3 (slotGhost c) ∗ per3 (slotOpen c))

/-- At the region's entry all the DMA cells are opened. -/
theorem hopen (c : Dev nD) :
    iprop(dealt m c ∗ Pipeline.ownSems0 osem c ∗ levAts L lv) ⊢ (iprop(|={Set.univ}=> opened m c) : sProp 𝕄) := by
  rw [ownSems_eq]
  unfold dealt opened per3
  iintro ⟨⟨%K, #HI, HB, HcB, Hg, Hsh⟩, Hs, #Hlev⟩
  icases Hsh with ⟨O0, O1, O2⟩
  icases Hs with ⟨S0, S1, S2⟩
  imod (open_slot m K c 0) $$ [O0 S0] with H0
  · isplitr; · iexact HI
    isplitl [O0] <;> iassumption
  imod (open_slot m K c 1) $$ [O1 S1] with H1
  · isplitr; · iexact HI
    isplitl [O1] <;> iassumption
  imod (open_slot m K c 2) $$ [O2 S2] with H2
  · isplitr; · iexact HI
    isplitl [O2] <;> iassumption
  imodintro
  iexists K
  isplitr; · iexact HI
  isplitr; · iexact Hlev
  isplitl [HB]; · iexact HB
  isplitl [HcB]; · iexact HcB
  isplitl [Hg]; · iexact Hg
  isplitl [H0]; · iexact H0
  isplitl [H1]; · iexact H1
  iexact H2

/-! ## The pipeline's proof data -/

/-- The region's invariant before its one point and after it. -/
def Φ₀ (c : Dev nD) : sProp 𝕄 := iprop(opened m c ∗ scratch c ∗ ∃ r, prngReg c r)
/-- After the point: the cells closed, the scratch buffers at anything. -/
def Φ₁ (c : Dev nD) : sProp 𝕄 := iprop(closedAll c ∗ scratch c ∗ ∃ r, prngReg c r)

/-- The arrays at what the host left in them; the inputs' buffers kept and the result's at the sum over the devices;
    everything owed before the point and nothing after. -/
def dat (c : Dev nD) : Dat τ (Elt F) Unit ℕ UU ℕ cfg0 c where
  A w := match w with
    | 0 => V1 m c main_v17 | 1 => V1 m c main_arg1 | 2 => V1 m c main_v15 | 3 => V1 m c main_v16 | 4 => V1 m c main_arg4
    | 5 => V1 m c main_v18
  after w _ := match w with
    | 0 => (inp m c).x | 1 => (inp m c).wq | 2 => (inp m c).kt | 3 => (inp m c).v | 4 => (inp m c).wo
    | 5 => outC (inp m) c
  Φ t := if t.val = 0 then Φ₀ m c else Φ₁ (F := F) c
  q _ := fullShare
  owed t := if t.val = 0 then debt c 0 else 0

/-- The proof data of the program's one pipeline. -/
def pdats : (p : Fin 1) → (c : Dev nD) → Dat τ (Elt F) Unit ℕ UU ℕ (Pipeline.pin (pcfgs (F := F)) adm p) c
  | 0 => dat m

/-- Before the point everything is owed. -/
theorem owed_first (c : Dev nD) : (dat m c).owed t0_0.castSucc = debt c 0 := by
  show (if (t0_0.castSucc : Fin (cfg0.N + 1)).val = 0 then debt c 0 else 0) = debt c 0
  exact if_pos rfl
/-- After the point nothing is owed. -/
theorem owed_last (c : Dev nD) : (dat m c).owed t0_0.succ = 0 := by
  show (if (t0_0.succ : Fin (cfg0.N + 1)).val = 0 then debt c 0 else 0) = 0
  exact if_neg (Nat.succ_ne_zero _)
/-- The invariant before the point. -/
theorem inv_first (c : Dev nD) : (dat m c).Φ t0_0.castSucc = Φ₀ m c := by
  show (if (t0_0.castSucc : Fin (cfg0.N + 1)).val = 0 then Φ₀ m c else Φ₁ (F := F) c) = Φ₀ m c
  exact if_pos rfl
/-- The invariant after the point. -/
theorem inv_last (c : Dev nD) : (dat m c).Φ t0_0.succ = Φ₁ (F := F) c := by
  show (if (t0_0.succ : Fin (cfg0.N + 1)).val = 0 then Φ₀ m c else Φ₁ (F := F) c) = Φ₁ (F := F) c
  exact if_neg (Nat.succ_ne_zero _)

/-- The inputs' staging buffers hold their arrays when the body runs. -/
theorem before_0 (c : Dev nD) (d) : (dat m c).before 0 t0_0 d = (inp m c).x := by
  rw [Pipeline.Dat.before_fetched _ _ _ (fetch0_0 t0_0)]
  funext y
  show V1 m c main_v17 _ = V1 m c main_v17 y
  congr 1; funext a; apply Fin.ext
  exact Pipeline.Window.rect_emb_val_of_index_zero win0_0 t0_0 a rfl y
/-- The same of the query projection's columns. -/
theorem before_1 (c : Dev nD) (d) : (dat m c).before 1 t0_0 d = (inp m c).wq := by
  rw [Pipeline.Dat.before_fetched _ _ _ (fetch0_1 t0_0)]
  funext y
  show V1 m c main_arg1 _ = V1 m c main_arg1 y
  congr 1; funext a; apply Fin.ext
  exact Pipeline.Window.rect_emb_val_of_index_zero win0_1 t0_0 a rfl y
/-- The same of the keys. -/
theorem before_2 (c : Dev nD) (d) : (dat m c).before 2 t0_0 d = (inp m c).kt := by
  rw [Pipeline.Dat.before_fetched _ _ _ (fetch0_2 t0_0)]
  funext y
  show V1 m c main_v15 _ = V1 m c main_v15 y
  congr 1; funext a; apply Fin.ext
  exact Pipeline.Window.rect_emb_val_of_index_zero win0_2 t0_0 a rfl y
/-- The same of the values. -/
theorem before_3 (c : Dev nD) (d) : (dat m c).before 3 t0_0 d = (inp m c).v := by
  rw [Pipeline.Dat.before_fetched _ _ _ (fetch0_3 t0_0)]
  funext y
  show V1 m c main_v16 _ = V1 m c main_v16 y
  congr 1; funext a; apply Fin.ext
  exact Pipeline.Window.rect_emb_val_of_index_zero win0_3 t0_0 a rfl y
/-- The same of the output projection's rows. -/
theorem before_4 (c : Dev nD) (d) : (dat m c).before 4 t0_0 d = (inp m c).wo := by
  rw [Pipeline.Dat.before_fetched _ _ _ (fetch0_4 t0_0)]
  funext y
  show V1 m c main_arg4 _ = V1 m c main_arg4 y
  congr 1; funext a; apply Fin.ext
  exact Pipeline.Window.rect_emb_val_of_index_zero win0_4 t0_0 a rfl y

/-- A core's debt as a point's, and back. -/
theorem owesAt_of {c : Dev nD} (t : Fin (cfg0.N + 1)) (O : CellTallies nD τ sig Unit) (h : (dat m c).owed t = O) :
    (iprop(∃ W, owes (c : Thread nD τ) O W) : sProp 𝕄) ⊢ ((dat m c).owesAt () t : sProp 𝕄) := by
  unfold Dat.owesAt Pipeline.owesWithin Dat.bound
  rw [h]
  iintro ⟨%W, HO⟩
  iexists W
  isplitr; · ipureintro; exact fun _ _ => Or.inl trivial
  iexact HO
/-- A point's debt as a core's. -/
theorem of_owesAt {c : Dev nD} (t : Fin (cfg0.N + 1)) (O : CellTallies nD τ sig Unit) (h : (dat m c).owed t = O) :
    ((dat m c).owesAt () t : sProp 𝕄) ⊢ (iprop(∃ W, owes (c : Thread nD τ) O W) : sProp 𝕄) := by
  unfold Dat.owesAt Pipeline.owesWithin
  rw [h]
  iintro ⟨%W, -, HO⟩
  iexists W; iexact HO

/-- Owning a whole buffer is holding it at its contents. -/
theorem owns_whole_eq (c : Dev nD) (b : Ref sig .tc) (X) :
    (owns (c : Thread nD τ) (Memref.whole b) fullShare X : sProp 𝕄) = iprop(∃ f, ⌜f = X⌝ ∗ ((c : Thread nD τ).loc b ↦{fullShare} f)) := by
  unfold owns
  simp only [Memref.view_whole, View.read_whole, View.set_whole]

/-- An owned whole buffer, as it is held. -/
theorem owns_pt {c : Dev nD} (b : Ref sig .tc) (X : b.ty.Contents (Elt F)) :
    (owns (c : Thread nD τ) (Memref.whole b) fullShare X : sProp 𝕄) ⊢ (pt c b X : sProp 𝕄) := by
  rw [owns_whole_eq]
  iintro ⟨%f, %hf, H⟩
  subst hf
  iexact H
/-- A buffer at known contents, out of its staging form. -/
theorem staged {c : Dev nD} (b : Ref sig .tc) {P : b.ty.Contents (Elt F) → b.ty.Contents (Elt F)} (X : b.ty.Contents (Elt F)) (h : ∀ d, P d = X) :
    (iprop(∃ d, owns (c : Thread nD τ) (Memref.whole b) fullShare (P d)) : sProp 𝕄) ⊢ (pt c b X : sProp 𝕄) := by
  rw [show P = fun _ => X from funext h]
  iintro ⟨%d, H⟩
  iapply (owns_pt b) $$ H
/-- A buffer at unknown contents, out of its staging form. -/
theorem staged_any {c : Dev nD} (b : Ref sig .tc) {P : b.ty.Contents (Elt F) → b.ty.Contents (Elt F)} :
    (iprop(∃ d, owns (c : Thread nD τ) (Memref.whole b) fullShare (P d)) : sProp 𝕄) ⊢ (iprop(∃ f, pt c b f) : sProp 𝕄) := by
  iintro ⟨%d, H⟩
  iexists P d
  iapply (owns_pt b) $$ H
/-- … and back into it. -/
theorem unstaged {c : Dev nD} (b : Ref sig .tc) (X : b.ty.Contents (Elt F)) :
    (pt c b X : sProp 𝕄) ⊢ (owns (c : Thread nD τ) (Memref.whole b) fullShare X : sProp 𝕄) := by
  rw [owns_whole_eq]
  iintro H
  iexists X
  isplitr; · ipureintro; rfl
  iexact H

set_option maxRecDepth 4000 in
/-- The body's obligation: the run of the body between the staging buffers' forms. -/
theorem body_obligation (c : Dev nD) : BodyObligation (dat m c) (defs₀ (F := F)) 𝒱₀ () Set.univ := fun t => by
  obtain rfl := fin_N0 t
  rw [bigSep_W0, bigSep_W0, inv_first, inv_last]
  show iprop(Φ₀ m c ∗ (dat m c).owesAt () t0_0.castSucc
      ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d))
      ∗ (∃ d, owns (c : Thread nD τ) (Memref.whole cc0_stg2_0) fullShare ((dat m c).before 2 t0_0 d))
      ∗ (∃ d, owns (c : Thread nD τ) (Memref.whole cc0_stg3_0) fullShare ((dat m c).before 3 t0_0 d))
      ∗ (∃ d, owns (c : Thread nD τ) (Memref.whole cc0_stg4_0) fullShare ((dat m c).before 4 t0_0 d))
      ∗ (∃ d, owns (c : Thread nD τ) (Memref.whole cc0_stg5_0) fullShare ((dat m c).before 5 t0_0 d)))
    ⊢ wp frame (wpE (defs₀ (F := F)) 𝒱₀ c none) Set.univ (theBody (F := F)) fun _ =>
      iprop(Φ₁ (F := F) c ∗ (dat m c).owesAt () t0_0.succ
        ∗ owns (c : Thread nD τ) (Memref.whole cc0_stg0_0) fullShare (inp m c).x
        ∗ owns (c : Thread nD τ) (Memref.whole cc0_stg1_0) fullShare (inp m c).wq
        ∗ owns (c : Thread nD τ) (Memref.whole cc0_stg2_0) fullShare (inp m c).kt
        ∗ owns (c : Thread nD τ) (Memref.whole cc0_stg3_0) fullShare (inp m c).v
        ∗ owns (c : Thread nD τ) (Memref.whole cc0_stg4_0) fullShare (inp m c).wo
        ∗ owns (c : Thread nD τ) (Memref.whole cc0_stg5_0) fullShare (outC (inp m) c))
  unfold Φ₀ Φ₁ opened
  iintro ⟨⟨⟨%K, #HI, #Hlev, HB, HcB, Hg, Ho⟩, Hscr, Hp⟩, HO, H0, H1, H2, H3, H4, H5⟩
  ihave HO := (of_owesAt m _ _ (owed_first m c)) $$ HO
  ihave H0 := (staged cc0_stg0_0 _ (before_0 m c)) $$ H0
  ihave H1 := (staged cc0_stg1_0 _ (before_1 m c)) $$ H1
  ihave H2 := (staged cc0_stg2_0 _ (before_2 m c)) $$ H2
  ihave H3 := (staged cc0_stg3_0 _ (before_3 m c)) $$ H3
  ihave H4 := (staged cc0_stg4_0 _ (before_4 m c)) $$ H4
  ihave H5 := (staged_any cc0_stg5_0) $$ H5
  iapply (bodyRun (inp m) K c)
  isplitl [HB HcB Hg Ho HO]
  · unfold talkIn owing
    isplitr; · iexact HI
    isplitr; · iexact Hlev
    isplitl [HO]; · iexact HO
    isplitl [HB]; · iexact HB
    isplitl [HcB]; · iexact HcB
    isplitl [Hg]; · iexact Hg
    iexact Ho
  isplitl [H0 H1 H2 H3 H4]
  · unfold inputs
    isplitl [H0]; · iexact H0
    isplitl [H1]; · iexact H1
    isplitl [H2]; · iexact H2
    isplitl [H3]; · iexact H3
    iexact H4
  isplitl [H5]; · iexact H5
  isplitl [Hscr]; · iexact Hscr
  unfold inputs owing
  rw [debt_done]
  iintro ⟨HO, Hc, ⟨H0, H1, H2, H3, H4⟩, H5, Hscr⟩
  isplitl [Hc Hscr Hp]
  · isplitl [Hc]; · iexact Hc
    isplitl [Hscr] <;> iassumption
  isplitl [HO]; · iapply (owesAt_of m _ _ (owed_last m c)); iexact HO
  isplitl [H0]; · iapply (unstaged cc0_stg0_0); iexact H0
  isplitl [H1]; · iapply (unstaged cc0_stg1_0); iexact H1
  isplitl [H2]; · iapply (unstaged cc0_stg2_0); iexact H2
  isplitl [H3]; · iapply (unstaged cc0_stg3_0); iexact H3
  isplitl [H4]; · iapply (unstaged cc0_stg4_0); iexact H4
  iapply (unstaged cc0_stg5_0); iexact H5

/-! ## The region's record -/

/-- What enters the region is the invariant before the point. -/
theorem hin (c : Dev nD) :
    iprop(Pipeline.scopedRest spec0 c ∗ (∃ r, prngReg c r) ∗ StableHlo.held (c.tc : Thread nD τ) ∅ (V1 m c) ∗ opened m c)
      ⊢ ((pdats m 0 c).Φ 0 : sProp 𝕄) := by
  refine BIBase.Entails.trans ?_ (Entails.of_eq (inv_first m c).symm)
  rw [scopedRest0_eq]
  unfold Φ₀ scratch pt
  iintro ⟨Hs, Hp, -, Ho⟩
  isplitl [Ho]; · iexact Ho
  isplitl [Hs]; · iexact Hs
  iexact Hp

/-- The invariant after the point is what leaves the region. -/
theorem hout (c : Dev nD) (V : Valuation τ sig (Elt F)) :
    ((pdats m 0 c).Φ (Fin.last _) : sProp 𝕄) ⊢ iprop(Pipeline.scopedRest spec0 c ∗ (∃ r, prngReg c r)
      ∗ StableHlo.held (c.tc : Thread nD τ) ∅ V ∗ Pipeline.ownSems0 osem c ∗ semVal (barCell c) 0) := by
  refine BIBase.Entails.trans (Entails.of_eq (inv_last m c)) ?_
  rw [scopedRest0_eq, ownSems_eq]
  unfold Φ₁ closedAll scratch pt StableHlo.held
  rw [bigSep_empty]
  iintro ⟨⟨Hb, Hc⟩, Hs, Hp⟩
  isplitl [Hs]; · iexact Hs
  isplitl [Hp]; · iexact Hp
  isplitr; · iempintro
  isplitl [Hc] <;> iassumption

/-- What a core owes, it owes above level 0. -/
theorem cut (c : Dev nD) (t : Fin (cfg0.N + 1)) (g : GSem nD τ sig) (u : Unit) (h : 0 < (dat m c).owed t g u) : u ∈ L g ∧ 0 < lv g u := by
  have h' : 0 < (if t.val = 0 then debt c 0 else 0) g u := h
  split at h'
  · obtain ⟨p, k, -, rfl⟩ := debt_pos h'
    rw [L_pay, lv_pay]
    exact ⟨Finset.mem_singleton_self _, Nat.succ_pos _⟩
  · exact absurd h' (lt_irrefl _)

/-- Before the point the arrays are as the host left them. -/
theorem arr_first (c : Dev nD) (w : Fin cfg0.W) :
    (dat m c).arrAt w 0 = V1 m c (Proc.devRef .tc (Pipeline.arrRef spec0 w)) := by
  match w with
  | 0 => rfl | 1 => rfl | 2 => rfl | 3 => rfl | 4 => rfl | 5 => rfl

/-- After the point the result's array is `outC`. -/
theorem out_last (c : Dev nD) : (dat m c).arrAt 5 cfg0.N = outC (inp m) c :=
  (dat m c).arrAt_eq_of_after_last 5 t0_0 (by decide +kernel) _ fun j => rfl

/-- Every array is held at the full share. -/
theorem share_full (c : Dev nD) (w : Fin cfg0.W) : (dat m c).share w = fullShare := by
  unfold Dat.share
  split <;> rfl

/-- Every buffer but the result's array is as the host left it. -/
theorem V2_ne (c : Dev nD) (b : DevRef τ sig) (h : b ≠ Proc.devRef .tc main_v18) : V2 m (outs m) c b = V1 m c b := by
  rw [V2_out, Function.update_of_ne h]

/-- After the point the arrays are as stated for the region's end. -/
theorem arr_last (c : Dev nD) (w : Fin cfg0.W) :
    (dat m c).arrAt w cfg0.N = V2 m (outs m) c (Proc.devRef .tc (Pipeline.arrRef spec0 w)) := by
  match w with
  | 0 => exact ((dat m c).arrAt_in 0 rfl _).trans (V2_ne m c (Proc.devRef .tc main_v17) (by decide)).symm
  | 1 => exact ((dat m c).arrAt_in 1 rfl _).trans (V2_ne m c (Proc.devRef .tc main_arg1) (by decide)).symm
  | 2 => exact ((dat m c).arrAt_in 2 rfl _).trans (V2_ne m c (Proc.devRef .tc main_v15) (by decide)).symm
  | 3 => exact ((dat m c).arrAt_in 3 rfl _).trans (V2_ne m c (Proc.devRef .tc main_v16) (by decide)).symm
  | 4 => exact ((dat m c).arrAt_in 4 rfl _).trans (V2_ne m c (Proc.devRef .tc main_arg4) (by decide)).symm
  | 5 =>
    refine (out_last m c).trans ?_
    rw [V2_out]
    exact (Function.update_self (Proc.devRef .tc main_v18) (outC (inp m) c) (V1 m c)).symm

/-- The unscoped buffers that no window names. -/
def others : Finset (DevRef τ sig) := Pipeline.ucRefs τ sig \ Pipeline.arrRefs spec0

/-- No other buffer is the result's array. -/
theorem others_ne (b : DevRef τ sig) (h : b ∈ others) : b ≠ Proc.devRef .tc main_v18 := by
  rintro rfl
  exact (Finset.mem_sdiff.mp h).2 (by decide)

set_option backward.isDefEq.respectTransparency.types false in
/-- The region, entered with what the launch dealt and left owing nothing. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (body_obligation m c).loose)
    (fun _ => 0) (fun c => debt c 0) (fun c => (owed_first m c).trans (zero_add _).symm) (owed_last m) (fun _ => rfl) (share_full m)
    (V1 m) (V2 m (outs m)) (fun c b hb => V2_ne m c b (others_ne b (Finset.mem_sdiff.mp hb).1))
    (dealt m) (fun c => semVal (barCell c) 0) (opened m) (fun c => semVal (barCell c) 0)
    (hopen m) (hin m) (fun c => hout m c (V2 m (outs m) c))
    (fun c => by iintro H; imodintro; iexact H)
    (fun _ => 0)
    ⟨fun c w s => by rw [L_tc]; exact Finset.mem_singleton_self _, fun c w s => by fin_cases w <;> fin_cases s <;> exact le_refl _,
      fun c t g i h => cut m c t g i h⟩
    (fun _ => iprop(emp)) (arr_first m) (arr_last m)

end Cert.KernelIdeal.Run

end
-- ==== Proof.Launch.lean ====
/- The attention kernel's launch: every cell's invariant allocated, the DMA cells dormant, the tokens and credits dealt round
   the devices, and the run of the whole program. -/
module

public import proofs.«01_k».proof.Proof.Region

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Between the segments -/

/-- What rides along the host operations before the region, and what rides along those after it. -/
def rest : Fin 2 → Dev nD → sProp 𝕄
  | 0, c => iprop((∃ r, prngReg c r) ∗ dealt m c ∗ ∃ W, owes (c : Thread nD τ) (debt c 0) W)
  | 1, c => iprop(semVal (barCell c) 0 ∗ ∃ W, owes (c : Thread nD τ) (0 : CellTallies nD τ sig Unit) W)

/-- The windows' arrays are among the unscoped buffers. -/
theorem arrs_sub : Pipeline.arrRefs (τ := τ) spec0 ⊆ Pipeline.ucRefs τ sig :=
  Pipeline.arrRefs_sub_ucRefs spec0 (by decide)

/-- The unscoped buffers are the windows' arrays and the others. -/
theorem held_split (c : Dev nD) (V : Valuation τ sig (Elt F)) :
    (StableHlo.held (c.tc : Thread nD τ) (Pipeline.ucRefs τ sig) V : sProp 𝕄)
      = iprop(StableHlo.held (c.tc : Thread nD τ) (Pipeline.arrRefs spec0) V ∗ StableHlo.held (c.tc : Thread nD τ) others V) :=
  StableHlo.held_sub_split _ arrs_sub V

/-- What the first host operations leave is what the region needs. -/
theorem reg_pre (c : Dev nD) :
    iprop(StableHlo.held (c : Thread nD τ) (Pipeline.ucRefs τ sig) (V1 m c) ∗ rest m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ dealt m c ∗ ∃ Wd, owes (c : Thread nD τ) (0 + debt c 0) Wd)
  rw [zero_add, held_split]
  show iprop(_ ∗ (∃ r, prngReg c r) ∗ dealt m c ∗ ∃ W, owes (c : Thread nD τ) (debt c 0) W) ⊢ _
  iintro ⟨⟨Ha, Hs⟩, Hp, Hd, HO⟩
  isplitl [Ha]; · iexact Ha
  isplitl [Hp]; · iexact Hp
  isplitl [Hs]
  · isplitl [Hs]; · iexact Hs
    iempintro
  isplitl [Hd] <;> iassumption

/-- What the region leaves is what the last host operations need. -/
theorem reg_post (c : Dev nD) :
    (reg m).post c ⊢ iprop(StableHlo.held (c : Thread nD τ) (Pipeline.ucRefs τ sig) (V2 m (outs m) c) ∗ rest m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ semVal (barCell c) 0
    ∗ ∃ Wd, owes (c : Thread nD τ) (0 : CellTallies nD τ sig Unit) Wd) ⊢ _
  rw [held_split]
  show _ ⊢ iprop(_ ∗ semVal (barCell c) 0 ∗ ∃ W, owes (c : Thread nD τ) (0 : CellTallies nD τ sig Unit) W)
  iintro ⟨Ha, -, ⟨Hs, -⟩, Hb, HO⟩
  isplitl [Ha Hs]
  · isplitl [Ha] <;> iassumption
  isplitl [Hb] <;> iassumption

/-! ## Cells and tokens -/

/-- The kernel's own semaphores are distinct. -/
theorem osem_inj : Function.Injective osem := by decide +kernel
/-- None of them is the barrier. -/
theorem osem_ne_bar : ∀ p, osem p ≠ .reg barrier0 := by decide +kernel

/-- The barrier cells by device. -/
def barEmb : Dev nD ↪ GSem nD τ sig := ⟨fun c => barCell c, fun _ _ h => congrArg (fun g : GSem nD τ sig => g.1.1) h⟩
/-- The DMA cells by device, slot and family. -/
def dmaEmb : Dev nD × (Fin 3 × Fin 4) ↪ GSem nD τ sig :=
  ⟨fun q => ((q.1 : Thread nD τ), osem q.2), fun _ _ h =>
    Prod.ext (congrArg (fun g : GSem nD τ sig => g.1.1) h) (osem_inj (congrArg Prod.snd h))⟩

/-- The barrier cells, whose counters the launch has; and the DMA cells, opened only at the region. -/
abbrev barCells : Finset (GSem nD τ sig) := Finset.univ.map barEmb
/-- The DMA cells. -/
abbrev dmaCells : Finset (GSem nD τ sig) := Finset.univ.map dmaEmb

/-- No barrier cell is a DMA cell. -/
theorem disjoint_cells : Disjoint barCells dmaCells := by
  rw [Finset.disjoint_left]
  rintro g h₁ h₂
  obtain ⟨c, -, rfl⟩ := Finset.mem_map.mp h₁
  obtain ⟨q, -, h⟩ := Finset.mem_map.mp h₂
  exact osem_ne_bar q.2 (congrArg Prod.snd h)

/-- Per slot and family, the last being the barrier's: the semaphore and the duty. -/
def dutyOf (k : Fin 3) (i : Fin 5) : SemLoc sig × Fin 3 := if h : i.val < 4 then (.dma (semOf ⟨i.val, h⟩ k), 0) else (.reg barrier0, k.rev)
/-- Different slots and families have different duties. -/
theorem dutyOf_inj : Function.Injective fun p : Fin 3 × Fin 5 => dutyOf p.1 p.2 := by decide +kernel

/-- The tokens by slot, device and family. -/
def tokEmb : Fin 3 × (Dev nD × Fin 5) ↪ GSem nD τ sig × ℕ × Fin 3 :=
  ⟨fun q => (((q.2.1 : Thread nD τ), (dutyOf q.1 q.2.2).1), 0, (dutyOf q.1 q.2.2).2), fun a b h => by
    have h1 : a.2.1 = b.2.1 := congrArg (fun t : GSem nD τ sig × ℕ × Fin 3 => t.1.1.1) h
    have h2 : (a.1, a.2.2) = (b.1, b.2.2) := dutyOf_inj
      (Prod.ext (congrArg (fun t : GSem nD τ sig × ℕ × Fin 3 => t.1.2) h) (congrArg (fun t : GSem nD τ sig × ℕ × Fin 3 => t.2.2) h))
    exact Prod.ext (Prod.mk.inj h2).1 (Prod.ext h1 (Prod.mk.inj h2).2)⟩
/-- All the tokens. -/
abbrev toks : Finset (GSem nD τ sig × ℕ × Fin 3) := Finset.univ.map tokEmb

/-- The tokens of the duties that device `c` pays in slot `k`. -/
def slotToks (c : Dev nD) (k : Fin 3) : sProp 𝕄 :=
  iprop(dutyTok ER (cell 0 c k) 0 0 ∗ dutyTok ER (cell 1 (up c k) k) 0 0 ∗ dutyTok ER (cell 2 c k) 0 0
    ∗ dutyTok ER (cell 3 (up c k) k) 0 0 ∗ dutyTok ER (barCell (up c k)) 0 k.rev)

/-- A conjunction over five, written out. -/
theorem fin5_eq (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide)]
  rfl

/-- One slot's tokens, each handed to the device that pays with it. -/
theorem slot_round (k : Fin 3) :
    bigSep Finset.univ (fun p : Dev nD × Fin 5 => (dutyTok ER (tokEmb (k, p)).1 (tokEmb (k, p)).2.1 (tokEmb (k, p)).2.2 : sProp 𝕄))
      = bigSep Finset.univ fun c : Dev nD => slotToks c k := by
  rw [bigSep_univ_prod]
  have h (c : Dev nD) : bigSep Finset.univ (fun i : Fin 5 => (dutyTok ER (tokEmb (k, (c, i))).1 (tokEmb (k, (c, i))).2.1 (tokEmb (k, (c, i))).2.2 : sProp 𝕄))
      = iprop(dutyTok ER (cell 0 c k) 0 0 ∗ dutyTok ER (cell 1 c k) 0 0 ∗ dutyTok ER (cell 2 c k) 0 0
        ∗ dutyTok ER (cell 3 c k) 0 0 ∗ dutyTok ER (barCell c) 0 k.rev) := by
    rw [fin5_eq]; rfl
  rw [bigSep_congr fun c _ => h c]
  unfold slotToks
  rw [bigSep_sep', bigSep_sep', bigSep_sep', bigSep_sep', bigSep_sep', bigSep_sep', bigSep_sep', bigSep_sep',
    bigSep_univ_equiv (turn k) (fun c : Dev nD => (dutyTok ER (cell 1 c k) 0 0 : sProp 𝕄)),
    bigSep_univ_equiv (turn k) (fun c : Dev nD => (dutyTok ER (cell 3 c k) 0 0 : sProp 𝕄)),
    bigSep_univ_equiv (turn k) (fun c : Dev nD => (dutyTok ER (barCell c) 0 k.rev : sProp 𝕄))]
  rfl

/-- Three conjunctions over the devices, as one. -/
theorem per3_devs (Φ : Dev nD → Fin 3 → sProp 𝕄) :
    per3 (fun k => bigSep Finset.univ fun c => Φ c k) = bigSep Finset.univ fun c => per3 (Φ c) := by
  unfold per3
  rw [bigSep_sep', bigSep_sep']

/-- All the tokens, each handed to the device that pays with it. -/
theorem toks_round :
    bigSep toks (fun x => (dutyTok ER x.1 x.2.1 x.2.2 : sProp 𝕄)) = bigSep Finset.univ fun c : Dev nD => per3 (slotToks c) := by
  rw [bigSep_map, bigSep_univ_prod, bigSep_congr fun k _ => slot_round k, per3_eq, per3_devs]

/-- The rights to open, each handed to its device. -/
theorem shut_deal :
    bigSep dmaCells (fun g => (openTok ER g : sProp 𝕄)) = bigSep Finset.univ fun c : Dev nD => per3 (shutSlot c) := by
  rw [bigSep_map, bigSep_univ_prod]
  refine bigSep_congr fun c _ => ?_
  rw [bigSep_univ_prod, ← per3_eq]
  exact bigSep_congr fun k _ => by rw [fin4_eq]; rfl

/-! ## Records -/

/-- What every device may consult: all the invariants, and that every barrier cell is at round 0. -/
def records (K : GSem nD τ sig → ℕ) : sProp 𝕄 :=
  iprop(invs (inp m) K ∗ bigSep Finset.univ fun c : Dev nD => reached ER (barCell c) 0)

/-- The records may be consulted any number of times. -/
instance records_persistent (K : GSem nD τ sig → ℕ) : BI.Persistent (records m K) := by unfold records; infer_instance

/-- The invariants as the launch allocates them are the invariants as the body reads them. -/
theorem invs_deal (K : GSem nD τ sig → ℕ) :
    bigSep (barCells ∪ dmaCells) (fun g => (cellInv ER (talk (inp m)) (K g) g : sProp 𝕄)) = invs (inp m) K := by
  rw [BI.bigSep_union disjoint_cells, bigSep_map, bigSep_map, bigSep_univ_prod]
  unfold invs
  refine Eq.trans ?_ (bigSep_sep' ..).symm
  refine congrArg₂ (fun A B : sProp 𝕄 => iprop(A ∗ B)) rfl (bigSep_congr fun c _ => ?_)
  exact bigSep_univ_equiv (Equiv.prodComm (Fin 4) (Fin 3)) (fun p : Fin 3 × Fin 4 => (cellInv ER (talk (inp m)) (K (cell p.2 c p.1)) (cell p.2 c p.1) : sProp 𝕄))

/-! ## Credits -/

/-- What a core owes at the start, by phase and slot. -/
theorem debt_all (c : Dev nD) : debt c 0 = ∑ p : Fin 3, ∑ k : Fin 3, tallyAt (payCell c p k) () (payAmt p) := by
  unfold debt
  rw [← Finset.range_eq_Ico]
  simp only [Finset.sum_range_succ, Finset.sum_range_zero, Fin.sum_univ_three, zero_add, ← add_assoc]
  rfl

/-- Who pays a barrier cell. -/
theorem pays_bar : ∀ (d c : Dev nD) (p k : Fin 3), barCell c = payCell d p k ↔ d = dn c k ∧ p = 0 := by decide +kernel
/-- Who pays a scatter's arrival cell. -/
theorem pays_rs : ∀ (d c : Dev nD) (k' p k : Fin 3), cell 1 c k' = payCell d p k ↔ d = dn c k ∧ k = k' ∧ p = 1 := by decide +kernel
/-- Who pays a gather's arrival cell. -/
theorem pays_ag : ∀ (d c : Dev nD) (k' p k : Fin 3), cell 3 c k' = payCell d p k ↔ d = dn c k ∧ k = k' ∧ p = 2 := by decide +kernel

/-- The launch's credit on a cell is what all the devices owe it. -/
theorem owed_at (g : GSem nD τ sig) :
    launchCredit (Pipeline.owing fun c : Dev nD => debt c 0) 0 g ()
      = ∑ p : Fin 3, ∑ k : Fin 3, ∑ d : Dev nD, if g = payCell d p k then payAmt p else 0 := by
  rw [Pipeline.launchCredit_owing]
  have h (d : Dev nD) : debt d 0 g () = ∑ p : Fin 3, ∑ k : Fin 3, if g = payCell d p k then payAmt p else 0 := by
    rw [debt_all, Finset.sum_apply, Finsupp.finset_sum_apply]
    refine Finset.sum_congr rfl fun p _ => ?_
    rw [Finset.sum_apply, Finsupp.finset_sum_apply]
    exact Finset.sum_congr rfl fun k _ => by rw [tallyAt_apply]; simp only [and_true]
  rw [Finset.sum_congr rfl fun d _ => h d, Finset.sum_comm]
  exact Finset.sum_congr rfl fun p _ => Finset.sum_comm

/-- A barrier cell is owed three units. -/
theorem owed_bar (c : Dev nD) : launchCredit (Pipeline.owing fun c : Dev nD => debt c 0) 0 (barCell c) () = 3 := by
  rw [owed_at]
  simp only [pays_bar, ite_and, Finset.sum_ite_eq', Finset.mem_univ, if_true, Finset.sum_const, Finset.card_univ, Fintype.card_fin]
  simp [Fin.sum_univ_three, payAmt]

/-- A scatter's arrival cell is owed one copy's credit. -/
theorem owed_rs (c : Dev nD) (k' : Fin 3) : launchCredit (Pipeline.owing fun c : Dev nD => debt c 0) 0 (cell 1 c k') () = N := by
  rw [owed_at]
  simp only [pays_rs, ite_and, Finset.sum_ite_eq', Finset.mem_univ, if_true]
  rfl

/-- A gather's arrival cell is owed one copy's credit. -/
theorem owed_ag (c : Dev nD) (k' : Fin 3) : launchCredit (Pipeline.owing fun c : Dev nD => debt c 0) 0 (cell 3 c k') () = N := by
  rw [owed_at]
  simp only [pays_ag, ite_and, Finset.sum_ite_eq', Finset.mem_univ, if_true]
  rfl

/-- The launch's credit on a cell, as one tally. -/
theorem launch_at (g : GSem nD τ sig) (n : ℕ) (h : launchCredit (Pipeline.owing fun c : Dev nD => debt c 0) 0 g () = n) :
    tallyOn g (launchCredit (Pipeline.owing fun c : Dev nD => debt c 0) 0 g) = (tallyAt g () n : CellTallies nD τ sig Unit) := by
  unfold tallyAt
  refine congrArg _ (Finsupp.ext fun u => ?_)
  cases u
  rw [h, Finsupp.single_eq_same]

/-- The credit of slot `k`'s two arrivals. -/
def slotCred (c : Dev nD) (k : Fin 3) : sProp 𝕄 := iprop(cred (tallyAt (cell 1 c k) () N) ∗ cred (tallyAt (cell 3 c k) () N))

/-- The arrival semaphores by slot and talk. -/
def arriveEmb : Fin 3 × Fin 2 ↪ SemLoc sig :=
  ⟨fun p => .dma (semOf (if p.2 = 0 then 1 else 3) p.1), by decide +kernel⟩

/-- A part of a conjunction follows from the whole. -/
theorem bigSep_part {I : Type} [DecidableEq I] {s t : Finset I} (h : t ⊆ s) (Φ : I → sProp 𝕄) : bigSep s Φ ⊢ bigSep t Φ := BI.bigSep_subset h

/-- A device's launch credit holds what its barrier and its arrivals wait for. -/
theorem creds (c : Dev nD) :
    (Pipeline.launchCred (fun c : Dev nD => debt c 0) c : sProp 𝕄) ⊢ iprop(cred (tallyAt (barCell c) () 3) ∗ per3 (slotCred c)) := by
  unfold Pipeline.launchCred
  rw [bigSep_univ_at _ (SemLoc.reg barrier0), launch_at _ _ (owed_bar c)]
  refine sep_mono_right ?_
  refine (bigSep_part (t := Finset.univ.map arriveEmb) (fun s hs => Finset.mem_erase.mpr ⟨?_, Finset.mem_univ _⟩) _).trans (Entails.of_eq ?_)
  · obtain ⟨p, -, rfl⟩ := Finset.mem_map.mp hs
    exact osem_ne_bar (p.1, _)
  rw [bigSep_map, bigSep_univ_prod, ← per3_eq]
  refine bigSep_congr fun k _ => ?_
  rw [BI.bigSep_fin_two]
  unfold slotCred
  rw [← launch_at _ _ (owed_rs c k), ← launch_at _ _ (owed_ag c k)]
  rfl

/-! ## What the launch deals -/

/-- A device's own: its barrier position, the rights to open its cells, the tokens of what it pays. -/
def linear (c : Dev nD) : sProp 𝕄 := iprop(atPos ER (barCell c) 0 ∅ 0 ∗ per3 (shutSlot c) ∗ per3 (slotToks c))

/-- The rest of its launch holdings. -/
def bundle (c : Dev nD) : sProp 𝕄 :=
  iprop(StableHlo.held (c : Thread nD τ) (Pipeline.ucRefs τ sig) (V0 m c) ∗ (cred (tallyAt (barCell c) () 3) ∗ per3 (slotCred c))
    ∗ owes (c : Thread nD τ) (debt c 0) ∅ ∗ ∃ r, prngReg c r)

/-- A slot's tokens and credit, with the knowledge that the barrier cells are at round 0. -/
theorem ghost_slot (c : Dev nD) (k : Fin 3) :
    iprop((bigSep Finset.univ fun c : Dev nD => reached ER (barCell c) 0) ∗ slotToks c k ∗ slotCred c k) ⊢ (slotGhost c k : sProp 𝕄) := by
  unfold slotToks slotCred slotGhost
  iintro ⟨#HR, ⟨T0, T1, T2, T3, TB⟩, C1, C3⟩
  isplitr; · iapply (bigSep_pick (up c k) fun c : Dev nD => (reached ER (barCell c) 0 : sProp 𝕄)) $$ HR
  isplitl [TB]; · iexact TB
  isplitl [T0]; · iexact T0
  isplitl [T1]; · iexact T1
  isplitl [T2]; · iexact T2
  isplitl [T3]; · iexact T3
  isplitl [C1] <;> iassumption

/-- A device's part of the launch is what its first host operations start with. -/
theorem start_intro (K : GSem nD τ sig → ℕ) (c : Dev nD) :
    iprop(records m K ∗ (linear c ∗ bundle m c)) ⊢ iprop(StableHlo.held (c : Thread nD τ) (Pipeline.ucRefs τ sig) (V0 m c) ∗ rest m 0 c) := by
  show _ ⊢ iprop(_ ∗ (∃ r, prngReg c r) ∗ dealt m c ∗ ∃ W, owes (c : Thread nD τ) (debt c 0) W)
  unfold records linear bundle dealt per3
  iintro ⟨⟨#HI, #HR⟩, ⟨HaB, Hsh, T0, T1, T2⟩, Hh, ⟨HcB, C0, C1, C2⟩, HO, Hp⟩
  isplitl [Hh]; · iexact Hh
  isplitl [Hp]; · iexact Hp
  isplitr [HO]
  · iexists K
    isplitr; · iexact HI
    isplitl [HaB]; · iexact HaB
    isplitl [HcB]; · iexact HcB
    isplitr [Hsh]
    · isplitl [T0 C0]
      · iapply (ghost_slot c 0)
        isplitr; · iexact HR
        isplitl [T0] <;> iassumption
      isplitl [T1 C1]
      · iapply (ghost_slot c 1)
        isplitr; · iexact HR
        isplitl [T1] <;> iassumption
      iapply (ghost_slot c 2)
      isplitr; · iexact HR
      isplitl [T2] <;> iassumption
    iexact Hsh
  iexists ∅; iexact HO

/-! ## The launch -/

/-- The launch element: the pipeline library's at its staging cells; the talk's at its own. -/
def u₀ : UU :=
  (initOf (Pipeline.cells (Pipeline.pin (pcfgs (F := F)) adm) cellOf_inj) (Pipeline.launchToks (Pipeline.pin (pcfgs (F := F)) adm) cellOf_inj),
    launchOf barCells dmaCells toks)

/-- The talk's element, kept on device 0 until the step that deals it. -/
def G (c : Dev nD) : sProp 𝕄 := if c = 0 then BI.own (ER (launchOf barCells dmaCells toks)) else iprop(emp)

/-- The talk's element, kept on device 0, is all of it. -/
theorem G_eq : (bigSep Finset.univ G : sProp 𝕄) = BI.own (ER (launchOf barCells dmaCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The barrier is the one semaphore that no scope declares. -/
theorem unscoped_eq : ∀ sm : SemLoc sig, sm.isScoped .tc = false → sm = .reg barrier0 := by decide +kernel

/-- A device's unscoped semaphores are its barrier, at zero. -/
theorem unscopedSems_eq (c : Dev nD) : (unscopedSems0 c : sProp 𝕄) = semVal (barCell c) 0 := by
  unfold unscopedSems0
  rw [show (Finset.univ.filter fun sm : SemLoc sig => ¬sm.isScoped .tc = true) = {SemLoc.reg barrier0} from by decide +kernel, bigSep_singleton]

/-- The launch: the cells' invariants are allocated and every device gets its part. -/
theorem init :
    iprop((bigSep Finset.univ fun c : Dev nD => iprop(unscopedBufs c (fun b => m ((c : Thread nD τ).loc b)) ∗ unscopedSems0 c
          ∗ owes (c : Thread nD τ) (debt c 0) ∅ ∗ Pipeline.launchCred (fun c : Dev nD => debt c 0) c ∗ prngReg c (ρ c) ∗ G c)) ∗ levAts L lv)
      ⊢ (|={Set.univ}=> bigSep Finset.univ (fun c : Dev nD => iprop(StableHlo.held (c : Thread nD τ) (Pipeline.ucRefs τ sig) (V0 m c) ∗ rest m 0 c)) : sProp 𝕄) := by
  have hcore (c : Dev nD) : iprop(unscopedBufs c (fun b => m ((c : Thread nD τ).loc b)) ∗ unscopedSems0 c
        ∗ owes (c : Thread nD τ) (debt c 0) ∅ ∗ Pipeline.launchCred (fun c : Dev nD => debt c 0) c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V0 m c) from
        Pipeline.unscopedBufs_held (Ix := Unit) (Name := ℕ) (U := UU) (Lvl := ℕ) c (V0 m c), unscopedSems_eq]
    unfold bundle
    iintro ⟨Hh, Hus, HO, Hcr, Hp, HG⟩
    isplitl [Hh HO Hcr Hp]
    · isplitl [Hh]; · iexact Hh
      isplitl [Hcr]; · iapply (creds c) $$ Hcr
      isplitl [HO]; · iexact HO
      iexists (ρ c); iexact Hp
    isplitl [Hus] <;> iassumption
  iintro ⟨H, -⟩
  ihave H := (show (bigSep Finset.univ fun c : Dev nD => iprop(unscopedBufs c (fun b => m ((c : Thread nD τ).loc b)) ∗ unscopedSems0 c
          ∗ owes (c : Thread nD τ) (debt c 0) ∅ ∗ Pipeline.launchCred (fun c : Dev nD => debt c 0) c ∗ prngReg c (ρ c) ∗ G c))
      ⊢ (bigSep Finset.univ fun c : Dev nD => iprop(bundle m c ∗ (semVal (barCell c) 0 ∗ G c)) : sProp 𝕄) from bigSep_mono fun c _ => hcore c) $$ H
  ihave H := (Entails.of_eq (bigSep_sep' ..)) $$ H
  icases H with ⟨HB, H⟩
  ihave H := (Entails.of_eq (bigSep_sep' ..)) $$ H
  icases H with ⟨Hv, HG⟩
  ihave HG := (Entails.of_eq G_eq) $$ HG
  ihave Hv := (show bigSep Finset.univ (fun c : Dev nD => (semVal (barCell c) 0 : sProp 𝕄)) ⊢ bigSep barCells (fun g => (semVal g 0 : sProp 𝕄)) from
    Entails.of_eq (bigSep_map (s := Finset.univ) barEmb (Φ := fun g : GSem nD τ sig => (semVal g 0 : sProp 𝕄))).symm) $$ Hv
  imod (Rounds.fund_launch ER (talk (inp m)) disjoint_cells (fun g _ h => h) toks) $$ [Hv HG] with ⟨%K, -, HI, Hr, Hat, Hsh, Htok⟩
  · isplitl [Hv] <;> iassumption
  ihave HI := (Entails.of_eq (invs_deal m K)) $$ HI
  ihave Hr := (show bigSep barCells (fun g => (reached ER g 0 : sProp 𝕄)) ⊢ bigSep Finset.univ (fun c : Dev nD => (reached ER (barCell c) 0 : sProp 𝕄)) from
    Entails.of_eq (bigSep_map (s := Finset.univ) barEmb (Φ := fun g : GSem nD τ sig => (reached ER g 0 : sProp 𝕄)))) $$ Hr
  ihave Hat := (show bigSep barCells (fun g => (atPos ER g 0 ∅ 0 : sProp 𝕄)) ⊢ bigSep Finset.univ (fun c : Dev nD => (atPos ER (barCell c) 0 ∅ 0 : sProp 𝕄)) from
    Entails.of_eq (bigSep_map (s := Finset.univ) barEmb (Φ := fun g : GSem nD τ sig => (atPos ER g 0 ∅ 0 : sProp 𝕄)))) $$ Hat
  ihave Hsh := (Entails.of_eq shut_deal) $$ Hsh
  ihave Htok := (Entails.of_eq toks_round) $$ Htok
  imodintro
  iapply (bigSep_with_persistent (R := records m K) (Φ := fun c => iprop(linear c ∗ bundle m c)) fun c _ => start_intro m K c)
  isplitl [HI Hr]
  · unfold records
    isplitl [HI] <;> iassumption
  iapply (Entails.of_eq (bigSep_sep' ..).symm)
  isplitr [HB]
  · unfold linear
    iapply (Entails.of_eq (bigSep_sep' ..).symm); isplitl [Hat]; · iexact Hat
    iapply (Entails.of_eq (bigSep_sep' ..).symm); isplitl [Hsh]; · iexact Hsh
    iexact Htok
  iexact HB

set_option backward.isDefEq.respectTransparency.types false in
/-- The run: from any memory with zero counters the program ends on every device with its arguments unchanged, its result
    the sum over the devices, and every semaphore counter at zero. -/
theorem run_main : θ_run defs (onTc (τ := τ) (main (F := F))) ⟨m, fun _ => 0, ρ⟩ (fun r =>
    (∀ c : Dev nD, r.2.mem ((c : Thread nD τ).loc main_v19) = V3 m (outs m) c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m (outs m) 𝒱₀ L lv (rest m) () (pdats m) (reg m))
    (fun c Q => by
      rewrite [main_chain c, Pipeline.Seg.run_eq_chain,
        show (segs m (outs m) 𝒱₀ L lv (rest m) () (pdats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (fun c => debt c 0) L_of_ne G (u₀ (F := F)) ?_
    (T₀ := fun c => iprop(StableHlo.held (c : Thread nD τ) (Pipeline.ucRefs τ sig) (V0 m c) ∗ rest m 0 c))
    (Tₙ := fun c => iprop(StableHlo.held (c : Thread nD τ) (Pipeline.ucRefs τ sig) (V3 m (outs m) c) ∗ semVal (barCell c) 0))
    (hch := fun c => ⟨.rfl, reg_pre m c, reg_post m c, ?_⟩)
    (hinit := init m ρ)
    (QY := fun c s => (s.mem ((c : Thread nD τ).loc main_v19) = V3 m (outs m) c main_v19
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem (barCell c) = 0)
    (hfin := fun c s' => ?_)
    (hQ := fun s h hs => ⟨fun c => (h c).1, sem_eq_zero hs fun c sm hsm => by obtain rfl := unscoped_eq sm hsm; exact (h c).2⟩)
  · unfold u₀
    iintro Hu
    ihave H := (ownU_pair _ _) $$ Hu
    icases H with ⟨HP, HX⟩
    imodintro
    isplitl [HP]; · iexact HP
    rw [G_eq]; iexact HX
  · show iprop(StableHlo.held (c : Thread nD τ) (Pipeline.ucRefs τ sig) (V3 m (outs m) c)
          ∗ (semVal (barCell c) 0 ∗ ∃ W, owes (c : Thread nD τ) (0 : CellTallies nD τ sig Unit) W)) ⊢ _
    iintro ⟨Hh, Hb, HO⟩
    isplitr [HO]
    · isplitl [Hh] <;> iassumption
    · iexact HO
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      have rd (b : Ref sig .tc) (hb : b.isScoped = false) := h (Proc.devRef .tc b) (Finset.mem_filter.mpr ⟨StableHlo.devRef_mem_tcRefs b, by
        intro h'; exact Bool.false_ne_true (hb.symm.trans h')⟩)
      exact ⟨⟨rd main_v19 rfl, (rd main_arg0 rfl).trans (V3_main_arg0 m (outs m) c), (rd main_arg1 rfl).trans (V3_main_arg1 m (outs m) c),
        (rd main_arg2 rfl).trans (V3_main_arg2 m (outs m) c), (rd main_arg3 rfl).trans (V3_main_arg3 m (outs m) c),
        (rd main_arg4 rfl).trans (V3_main_arg4 m (outs m) c)⟩, by simpa using hb⟩
    · iexact HSI

end Cert.KernelIdeal.Run

end
-- ==== Proof.Word.lean ====
/- The kernel on words: its text and its buffers are those of its idealized text, so what runs of one runs of the other. -/
module

public import proofs.«01_k».proof.Proof.Launch
public import proofs.«01_k».proof.Proof.Gen.Kernel

@[expose] public section

noncomputable section

namespace Cert.Kernel.Run

open Idealize.ShloMosaic Idealize.SL.Sem

variable {F : FTy → Type} [FloatOps F]

/-- The two body tables are one: they have one label, and run one body at it. -/
theorem defs₀_same : (Cert.Kernel.defs₀ (F := F)) = Cert.KernelIdeal.defs₀ (F := F) := by
  refine congrArg Defs.onTc ?_
  funext l a
  match l, a with
  | 0, (t, s) => rfl
  | ⟨_ + 1, h⟩, _ => exact absurd h (Nat.not_lt.2 (Nat.le_add_left _ _))

/-- The tables with the pipelines' labels are one. -/
theorem defs_same : (Cert.Kernel.defs (F := F)) = Cert.KernelIdeal.defs (F := F) :=
  congrArg (Pipeline.defs Cert.KernelIdeal.pcfgs) defs₀_same

/-- The kernel runs, leaves its arguments alone, and leaves every counter at zero. -/
theorem run_main (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs_same]
  have h0 := Cert.KernelIdeal.Run.run_main (F := F) m ρ
  refine (θ_run (Cert.KernelIdeal.defs (F := F)) _ _).mono (fun r h => ?_) h0
  exact ⟨fun c => (h.1 c).2, h.2⟩

end Cert.Kernel.Run

end
-- ==== Proof.Value.lean ====
/- The values of the attention kernel and of its reference, element by element, at exact arithmetic. -/
module

public import proofs.«01_k».proof.Proof.Common
public import proofs.«01_k».proof.Proof.Gen.ReferenceIdeal.Run
public import Idealize.ShloMosaic.Lib.Pointwise
public import Idealize.ShloMosaic.Lib.Tactic.CleanTypes
public import Idealize.ShloMosaic.Lib.StableHlo.ReadAt

@[expose] public section

noncomputable section

namespace Cert.Attention

open Idealize.ShloMosaic
open Cert.KernelIdeal Cert.KernelIdeal.Gen Cert.KernelIdeal.Run

/-- One element of one head's output: a query row against every key, the exponentials about the largest score, and one
    column of the values weighted by them, over their sum. -/
def head (q : Fin 64 → EReal) (k : Fin 512 → Fin 64 → EReal) (v : Fin 512 → EReal) : EReal :=
  let s : Fin 512 → EReal := fun j => (∑ d, q d * k j d) * Ideal.ofBits .f32 0x3E000000#32
  let p : Fin 512 → EReal := fun j => Ideal.exp (s j - Finset.univ.fold max (Ideal.ofBits .f32 0xFF800000#32) s)
  Ideal.div (∑ j, p j * v j) (∑ j, p j)

set_option maxRecDepth 16384 in
/-- One element of a head's output is the attention of its row of queries. -/
theorem headVal_apply (q : Vec Ideal S256x64 .bf16) (k : Vec Ideal S1x1x64x512 .bf16) (v : Vec Ideal S1x1x512x64 .bf16)
    (r : Fin 256) (d : Fin 64) :
    headVal q k v (ix2 r d) = head (fun d => q (ix2 r d)) (fun j d => k (ix4 0 0 d j)) (fun j => v (ix4 0 0 j d)) := by
  unfold headVal head
  pointwise

set_option maxRecDepth 16384 in
/-- One element of the query projection. -/
theorem q_apply (x : Vec Ideal S512x768 .bf16) (w : Vec Ideal S768x512 .bf16) (r c : Fin 512) :
    k0_pay1 x w (ix2 r c) = ∑ k : Fin 768, x (ix2 r k) * w (ix2 k c) := by
  pointwise [k0_pay1]

set_option maxRecDepth 16384 in
/-- One element of the partial product. -/
theorem pbf_apply (i : Inp Ideal) (r : Fin 512) (n : Fin 768) :
    pbf i (ix2 r n) = ∑ c : Fin 512, attn i (ix2 r c) * i.wo (ix2 c n) := by
  unfold pbf
  pointwise [k0_pay33]

/-- One element of the heads side by side, of whole arrays: row `s` of batch `b`, column `c` of 32 heads' 64. -/
def att (x : S2x256x768.Idx → EReal) (wq : (⟨2, ![768, 2048]⟩ : Shape).Idx → EReal) (k v : S2x512x8x64.Idx → EReal)
    (b : Fin 2) (s : Fin 256) (c : Fin 2048) : EReal :=
  head (fun d => ∑ e : Fin 768, x (ix3 b s e) * wq (ix2 e ⟨c.val / 64 * 64 + d.val, by omega⟩))
    (fun j d => k (ix4 b j ⟨c.val / 64 / 4, by omega⟩ d)) (fun j => v (ix4 b j ⟨c.val / 64 / 4, by omega⟩ ⟨c.val % 64, by omega⟩))

set_option maxRecDepth 16384 in
set_option maxHeartbeats 1000000 in
/-- One element of the reference's result. -/
theorem ref_apply (m : (ℓ : Loc Cert.ReferenceIdeal.nD Cert.ReferenceIdeal.τ Cert.ReferenceIdeal.sig) → Buf (Elt Ideal) ℓ)
    (c : Dev Cert.ReferenceIdeal.nD) (b : Fin 2) (s : Fin 256) (n : Fin 768) :
    (Cert.ReferenceIdeal.Value.res_main_v27 m c : S2x256x768.Idx → EReal) (ix3 b s n)
      = ∑ i : Fin 2048, att (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) b s i
        * (m ((c.tc : Thread Cert.ReferenceIdeal.nD Cert.ReferenceIdeal.τ).loc Cert.ReferenceIdeal.main_arg4) : (⟨2, ![2048, 768]⟩ : Shape).Idx → EReal) (ix2 i n) := by
  unfold Cert.ReferenceIdeal.Value.res_main_v27
  clean_types
  pointwise
  refine Finset.sum_congr rfl fun i _ => ?_
  refine congrArg (fun z : EReal => z * _) ?_
  unfold att head
  refine congrArg (fun z => Ideal.div z _) ?_
  exact Finset.sum_congr rfl fun j _ => mul_comm _ _

set_option maxRecDepth 16384 in
/-- One element of a device's heads side by side, of what its windows hold. -/
theorem attn_apply (i : Inp Ideal) (r c : Fin 512) :
    attn i (ix2 r c) = head (fun d => ∑ e : Fin 768, i.x (ix2 r e) * i.wq (ix2 e ⟨c.val / 64 * 64 + d.val, by omega⟩))
      (fun j d => i.kt (ix4 ⟨r.val / 256, by omega⟩ ⟨c.val / 64 / 4, by omega⟩ d j))
      (fun j => i.v (ix4 ⟨r.val / 256, by omega⟩ ⟨c.val / 64 / 4, by omega⟩ j ⟨c.val % 64, by omega⟩)) := by
  have h : attn i (ix2 r c) = headAt i ⟨r.val / 256, by omega⟩ ⟨c.val / 64, by omega⟩
      (ix2 ⟨r.val % 256, by omega⟩ ⟨c.val % 64, by omega⟩) := by
    unfold attn
    refine congrArg (headAt i _ _) ?_
    funext a
    match a with | ⟨0, _⟩ => rfl | ⟨1, _⟩ => rfl
  rw [h]
  unfold headAt
  rw [headVal_apply]
  unfold ktOf vOf kvHead
  pointwise [q_apply]
  have hr : (⟨256 * (r.val / 256) + r.val % 256, by omega⟩ : Fin 512) = r := Fin.ext (Nat.div_add_mod _ _)
  congr 1
  · funext d
    refine Finset.sum_congr rfl fun e _ => ?_
    refine congr (congrArg (fun a b : EReal => a * b) ?_) ?_
    · exact congrArg (fun z => i.x (ix2 z e)) hr
    · exact congrArg (fun z => i.wq (ix2 e z)) (Fin.ext (by show 64 * _ + _ = _ * 64 + _; omega))
  · funext j d
    refine congrArg i.kt ?_
    funext a
    refine Fin.ext ?_
    match a with
    | ⟨0, _⟩ => show r.val / 256 + 1 * 0 = r.val / 256; omega
    | ⟨1, _⟩ => show c.val / 64 / 4 + 1 * 0 = c.val / 64 / 4; omega
    | ⟨2, _⟩ => show 0 + 1 * d.val = d.val; omega
    | ⟨3, _⟩ => show 0 + 1 * j.val = j.val; omega
  · funext j
    refine congrArg i.v ?_
    funext a
    refine Fin.ext ?_
    match a with
    | ⟨0, _⟩ => show r.val / 256 + 1 * 0 = r.val / 256; omega
    | ⟨1, _⟩ => show c.val / 64 / 4 + 1 * 0 = c.val / 64 / 4; omega
    | ⟨2, _⟩ => show 0 + 1 * j.val = j.val; omega
    | ⟨3, _⟩ => show 0 + 1 * (c.val % 64) = (c.val % 64); omega

variable (m : (ℓ : Loc nD τ sig) → Buf (Elt Ideal) ℓ)

set_option maxRecDepth 16384 in
set_option maxHeartbeats 1000000 in
/-- The queries as the region finds them: the rows of the batches one under another. -/
theorem x_apply (c : Dev nD) (r : Fin 512) (e : Fin 768) :
    (V1 m c (Proc.devRef .tc main_v17) : S512x768.Idx → EReal) (ix2 r e)
      = (m ((c.tc : Thread nD τ).loc main_arg0) : S2x256x768.Idx → EReal) (ix3 ⟨r.val / 256, by omega⟩ ⟨r.val % 256, by omega⟩ e) := by
  unfold V1 hostOps0
  after_reads_at

set_option maxRecDepth 16384 in
set_option maxHeartbeats 1000000 in
/-- The keys as the region finds them: the device's two heads, each head's rows turned to columns. -/
theorem kt_apply (c : Dev nD) (b g : Fin 2) (d : Fin 64) (j : Fin 512) :
    (V1 m c (Proc.devRef .tc main_v15) : S2x2x64x512.Idx → EReal) (ix4 b g d j)
      = (m ((c.tc : Thread nD τ).loc main_arg2) : S2x512x8x64.Idx → EReal)
          (ix4 b j ⟨2 * c.val + g.val, by have := c.isLt; change _ < 4 at this; omega⟩ d) := by
  unfold V1 hostOps0
  after_reads_at
  simp only [Host.clampedStart, Matrix.cons_val_zero, Matrix.cons_val_one, Matrix.cons_val]
  after_reads_at
  refine congrArg (m ((c.tc : Thread nD τ).loc main_arg2)) ?_
  funext a
  refine Fin.ext ?_
  match a with
  | ⟨0, _⟩ => exact Nat.zero_add _
  | ⟨1, _⟩ => exact Nat.zero_add _
  | ⟨2, _⟩ =>
    refine congrArg (fun z => z + g.val) ?_
    revert c
    decide +kernel
  | ⟨3, _⟩ => exact Nat.zero_add _

set_option maxRecDepth 16384 in
set_option maxHeartbeats 1000000 in
/-- The values as the region finds them: the device's two heads, a head's rows together. -/
theorem v_apply (c : Dev nD) (b g : Fin 2) (j : Fin 512) (d : Fin 64) :
    (V1 m c (Proc.devRef .tc main_v16) : S2x2x512x64.Idx → EReal) (ix4 b g j d)
      = (m ((c.tc : Thread nD τ).loc main_arg3) : S2x512x8x64.Idx → EReal)
          (ix4 b j ⟨2 * c.val + g.val, by have := c.isLt; change _ < 4 at this; omega⟩ d) := by
  unfold V1 hostOps0
  after_reads_at
  simp only [Host.clampedStart, Matrix.cons_val_zero, Matrix.cons_val_one, Matrix.cons_val]
  after_reads_at
  refine congrArg (m ((c.tc : Thread nD τ).loc main_arg3)) ?_
  funext a
  refine Fin.ext ?_
  match a with
  | ⟨0, _⟩ => exact Nat.zero_add _
  | ⟨1, _⟩ => exact Nat.zero_add _
  | ⟨2, _⟩ =>
    refine congrArg (fun z => z + g.val) ?_
    revert c
    decide +kernel
  | ⟨3, _⟩ => exact Nat.zero_add _

section Sums

variable (inp : Dev nD → Inp Ideal)

/-- A row block's sum is over all four devices, whichever of them adds it up first. -/
theorem acc_apply (c : Dev nD) (r : Fin 128) (n : Fin 768) :
    (acc inp c : S128x768.Idx → EReal) (ix2 r n)
      = ∑ e : Fin 4, (pbf (inp e) : S512x768.Idx → EReal) (ix2 ⟨128 * c.val + r.val, by have := c.isLt; change _ < 4 at this; omega⟩ n) := by
  have hix : (rowRect c).emb (ix2 r n) = (ix2 ⟨128 * c.val + r.val, by have := c.isLt; change _ < 4 at this; omega⟩ n : S512x768.Idx) := by
    funext a
    refine Fin.ext ?_
    match a with
    | ⟨0, _⟩ => show 128 * c.val + 1 * r.val = 128 * c.val + r.val; omega
    | ⟨1, _⟩ => show 0 + 1 * n.val = n.val; omega
  unfold acc rowsOf
  pointwise
  rw [hix]
  generalize (ix2 ⟨128 * c.val + r.val, by have := c.isLt; change _ < 4 at this; omega⟩ n : S512x768.Idx) = j
  rw [Fin.sum_univ_four]
  clear hix
  fin_cases c
  · show (pbf (inp 0) j : EReal) + pbf (inp 3) j + pbf (inp 2) j + pbf (inp 1) j
      = pbf (inp 0) j + pbf (inp 1) j + pbf (inp 2) j + pbf (inp 3) j
    abel
  · show (pbf (inp 1) j : EReal) + pbf (inp 0) j + pbf (inp 3) j + pbf (inp 2) j
      = pbf (inp 0) j + pbf (inp 1) j + pbf (inp 2) j + pbf (inp 3) j
    abel
  · show (pbf (inp 2) j : EReal) + pbf (inp 1) j + pbf (inp 0) j + pbf (inp 3) j
      = pbf (inp 0) j + pbf (inp 1) j + pbf (inp 2) j + pbf (inp 3) j
    abel
  · show (pbf (inp 3) j : EReal) + pbf (inp 2) j + pbf (inp 1) j + pbf (inp 0) j
      = pbf (inp 0) j + pbf (inp 1) j + pbf (inp 2) j + pbf (inp 3) j
    abel

/-- Every device's result is the sum of the four devices' partial products. -/
theorem outC_apply (c : Dev nD) (r : Fin 512) (n : Fin 768) :
    (outC inp c : S512x768.Idx → EReal) (ix2 r n) = ∑ e : Fin 4, (pbf (inp e) : S512x768.Idx → EReal) (ix2 r n) := by
  have hblk : ∀ (e : Dev nD) (j : S128x768.Idx), (outBlk inp c e : S128x768.Idx → EReal) j = acc inp e j := by
    intro e j
    unfold outBlk
    split
    · rename_i h; rw [h]
    · unfold agq
      pointwise
  have h : (outC inp c : S512x768.Idx → EReal) (ix2 r n)
      = (acc inp ⟨r.val / 128, by change _ < 4; omega⟩ : S128x768.Idx → EReal) (ix2 ⟨r.val % 128, by omega⟩ n) := by
    rw [← hblk]
    unfold outC
    refine congrArg (outBlk inp c _) ?_
    funext a
    match a with | ⟨0, _⟩ => rfl | ⟨1, _⟩ => rfl
  rw [h, acc_apply]
  have hr : (⟨128 * (r.val / 128) + r.val % 128, by omega⟩ : Fin 512) = r := Fin.ext (Nat.div_add_mod _ _)
  exact Finset.sum_congr rfl fun e _ => congrArg (fun z => (pbf (inp e) : S512x768.Idx → EReal) (ix2 z n)) hr

end Sums

end Cert.Attention

end
-- ==== Proof.Tie.lean ====
/- The kernel's result is the reference's: a device's heads are 512 columns of the whole, and the four devices' partial
   products together are the whole output projection. -/
module

public import proofs.«01_k».proof.Proof.Launch
public import proofs.«01_k».proof.Proof.Value

@[expose] public section

noncomputable section

namespace Cert.Attention

open Idealize.ShloMosaic Idealize.SL.Sem
open Cert.KernelIdeal Cert.KernelIdeal.Gen Cert.KernelIdeal.Run

/-- A sum over 2048 columns is the sum over four devices of the sums over each one's 512. -/
theorem sum_cols (f : Fin 2048 → EReal) :
    ∑ i, f i = ∑ e : Fin 4, ∑ i : Fin 512, f ⟨i.val + 512 * e.val, by omega⟩ := by
  rw [← Equiv.sum_comp (finProdFinEquiv : Fin 4 × Fin 512 ≃ Fin (4 * 512)) f, Fintype.sum_prod_type]
  rfl

variable (m : (ℓ : Loc nD τ sig) → Buf (Elt Ideal) ℓ)
variable (X : S2x256x768.Idx → EReal) (Wq : (⟨2, ![768, 2048]⟩ : Shape).Idx → EReal) (K V : S2x512x8x64.Idx → EReal)
variable (Wo : (⟨2, ![2048, 768]⟩ : Shape).Idx → EReal)

/-- The devices' arguments are their parts of the whole arrays: copies, columns of the one projection, rows of the other. -/
structure Parts : Prop where
  x : ∀ c : Dev nD, (m ((c.tc : Thread nD τ).loc main_arg0) : S2x256x768.Idx → EReal) = X
  wq : ∀ c : Dev nD, (m ((c.tc : Thread nD τ).loc main_arg1) : S768x512.Idx → EReal) = Layout.block ⟨2, ![768, 512]⟩ ⟨2, ![768, 2048]⟩ 1 4 c Wq
  k : ∀ c : Dev nD, (m ((c.tc : Thread nD τ).loc main_arg2) : S2x512x8x64.Idx → EReal) = K
  v : ∀ c : Dev nD, (m ((c.tc : Thread nD τ).loc main_arg3) : S2x512x8x64.Idx → EReal) = V
  wo : ∀ c : Dev nD, (m ((c.tc : Thread nD τ).loc main_arg4) : S512x768.Idx → EReal) = Layout.block ⟨2, ![512, 768]⟩ ⟨2, ![2048, 768]⟩ 0 4 c Wo

variable {m X Wq K V Wo}

/-- A device's columns of the query projection, within the whole. -/
theorem Parts.wq_apply (h : Parts m X Wq K V Wo) (c : Dev nD) (e : Fin 768) (i : Fin 512) :
    ((inp m c).wq : S768x512.Idx → EReal) (ix2 e i)
      = Wq (ix2 e ⟨i.val + 512 * c.val, by have := c.isLt; change _ < 4 at this; omega⟩) := by
  have h1 : ((inp m c).wq : S768x512.Idx → EReal) = Layout.block ⟨2, ![768, 512]⟩ ⟨2, ![768, 2048]⟩ 1 4 c Wq :=
    (V1_of m c main_arg1 (by decide)).trans (h.wq c)
  rw [h1]
  refine congrArg Wq ?_
  funext a
  refine Fin.ext ?_
  match a with
  | ⟨0, _⟩ => rfl
  | ⟨1, _⟩ => show c.val * 512 + i.val = i.val + 512 * c.val; omega

/-- A device's rows of the output projection, within the whole. -/
theorem Parts.wo_apply (h : Parts m X Wq K V Wo) (c : Dev nD) (i : Fin 512) (n : Fin 768) :
    ((inp m c).wo : S512x768.Idx → EReal) (ix2 i n)
      = Wo (ix2 ⟨i.val + 512 * c.val, by have := c.isLt; change _ < 4 at this; omega⟩ n) := by
  have h1 : ((inp m c).wo : S512x768.Idx → EReal) = Layout.block ⟨2, ![512, 768]⟩ ⟨2, ![2048, 768]⟩ 0 4 c Wo :=
    (V1_of m c main_arg4 (by decide)).trans (h.wo c)
  rw [h1]
  refine congrArg Wo ?_
  funext a
  refine Fin.ext ?_
  match a with
  | ⟨0, _⟩ => show c.val * 512 + i.val = i.val + 512 * c.val; omega
  | ⟨1, _⟩ => rfl

/-- A device's heads side by side are its 512 columns of the whole's. -/
theorem Parts.attn_apply (h : Parts m X Wq K V Wo) (c : Dev nD) (r i : Fin 512) :
    (attn (inp m c) : S512x512.Idx → EReal) (ix2 r i)
      = att X Wq K V ⟨r.val / 256, by omega⟩ ⟨r.val % 256, by omega⟩ ⟨i.val + 512 * c.val, by have := c.isLt; change _ < 4 at this; omega⟩ := by
  have hc : c.val < 4 := c.isLt
  have hx : ∀ (r : Fin 512) (e : Fin 768), ((inp m c).x : S512x768.Idx → EReal) (ix2 r e)
      = X (ix3 ⟨r.val / 256, by omega⟩ ⟨r.val % 256, by omega⟩ e) := fun r e =>
    (x_apply m c r e).trans (congrFun (h.x c) _)
  have hk : ∀ (b g : Fin 2) (d : Fin 64) (j : Fin 512), ((inp m c).kt : S2x2x64x512.Idx → EReal) (ix4 b g d j)
      = K (ix4 b j ⟨2 * c.val + g.val, by omega⟩ d) := fun b g d j =>
    (kt_apply m c b g d j).trans (congrFun (h.k c) _)
  have hv : ∀ (b g : Fin 2) (j : Fin 512) (d : Fin 64), ((inp m c).v : S2x2x512x64.Idx → EReal) (ix4 b g j d)
      = V (ix4 b j ⟨2 * c.val + g.val, by omega⟩ d) := fun b g j d =>
    (v_apply m c b g j d).trans (congrFun (h.v c) _)
  rw [Cert.Attention.attn_apply]
  unfold att
  congr 1
  · funext d
    refine Finset.sum_congr rfl fun e _ => ?_
    rw [hx, h.wq_apply]
    refine congrArg (fun z => X _ * Wq (ix2 e z)) (Fin.ext ?_)
    show i.val / 64 * 64 + d.val + 512 * c.val = (i.val + 512 * c.val) / 64 * 64 + d.val
    omega
  · funext j d
    rw [hk]
    refine congrArg (fun z => K (ix4 _ j z d)) (Fin.ext ?_)
    show 2 * c.val + i.val / 64 / 4 = (i.val + 512 * c.val) / 64 / 4
    omega
  · funext j
    rw [hv]
    refine congrArg V ?_
    funext a
    refine Fin.ext ?_
    match a with
    | ⟨0, _⟩ => rfl
    | ⟨1, _⟩ => rfl
    | ⟨2, _⟩ =>
      show 2 * c.val + i.val / 64 / 4 = (i.val + 512 * c.val) / 64 / 4
      omega
    | ⟨3, _⟩ =>
      show i.val % 64 = (i.val + 512 * c.val) % 64
      omega

set_option maxRecDepth 16384 in
/-- One element of the kernel's result, on any device, in terms of the whole arrays. -/
theorem Parts.result_apply (h : Parts m X Wq K V Wo) (c : Dev nD) (b : Fin 2) (s : Fin 256) (n : Fin 768) :
    (V3 m (outs m) c (Proc.devRef .tc main_v19) : S2x256x768.Idx → EReal) (ix3 b s n)
      = ∑ i : Fin 2048, att X Wq K V b s i * Wo (ix2 i n) := by
  have h1 : (V3 m (outs m) c (Proc.devRef .tc main_v19) : S2x256x768.Idx → EReal) (ix3 b s n)
      = (outC (inp m) c : S512x768.Idx → EReal) (ix2 ⟨b.val * 256 + s.val, by omega⟩ n) := by
    unfold V3 hostOps1
    rw [V2_out]
    after_reads_at
    exact congrFun (Function.update_self _ _ _) _
  refine h1.trans ((outC_apply (inp m) c _ n).trans ?_)
  show (_ : EReal) = _
  rw [sum_cols]
  refine Finset.sum_congr rfl fun e _ => ?_
  rw [pbf_apply]
  refine Finset.sum_congr rfl fun i _ => ?_
  rw [h.attn_apply e, h.wo_apply e]
  have hb : (⟨(b.val * 256 + s.val) / 256, by omega⟩ : Fin 2) = b := Fin.ext (by show (b.val * 256 + s.val) / 256 = b.val; omega)
  have hs : (⟨(b.val * 256 + s.val) % 256, by omega⟩ : Fin 256) = s := Fin.ext (by show (b.val * 256 + s.val) % 256 = s.val; omega)
  refine congrArg (fun z : EReal => z * _) ?_
  exact congrArg₂ (fun y z => att X Wq K V y z ⟨i.val + 512 * e.val, by omega⟩) hb hs

/-- Every device's result is the reference's. -/
theorem Parts.result_eq (m' : (ℓ : Loc Cert.ReferenceIdeal.nD Cert.ReferenceIdeal.τ Cert.ReferenceIdeal.sig) → Buf (Elt Ideal) ℓ)
    (h : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)))
    (c : Dev nD) :
    (V3 m (outs m) c (Proc.devRef .tc main_v19) : S2x256x768.Idx → EReal) = Cert.ReferenceIdeal.Value.res_main_v27 m' 0 := by
  funext j
  rw [eq_ix3 j]
  exact (h.result_apply c (j 0) (j 1) (j 2)).trans (ref_apply m' 0 (j 0) (j 1) (j 2)).symm

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Word
public import proofs.«01_k».proof.Proof.Tie
public import Idealize.ShloMosaic.Adequacy
public import Idealize.ShloMosaic.Init

@[expose] public section

noncomputable section

namespace Cert.Proof

open Idealize.ShloMosaic Idealize.SL.Sem

/-- The kernel on words: its text and its buffers are those of its idealized text, so it is the same launch. -/
theorem frame_p : Cert.quiescent_Kernel := by
  intro m ρ _
  exact Cert.Kernel.Run.run_main (F := Bits) m ρ

/-- The idealized kernel: it runs, leaves its arguments alone, and leaves every counter at zero. -/
theorem frame_pi : Cert.quiescent_KernelIdeal := by
  intro m ρ _
  exact (θ_run _ _ _).mono (fun _ h => ⟨fun c => (h.1 c).2, h.2⟩) (Cert.KernelIdeal.Run.run_main (F := Ideal) m ρ)

/-- The reference: its operations write none of its arguments, and it declares no counter. -/
theorem frame_ri : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- Nothing was rewritten between the kernel and its idealized text. -/
theorem preserves_p : Cert.preserves_Kernel_KernelIdeal := trivial

/-- Every device's result is the reference's, at exact arithmetic. -/
theorem algebraic_pi_ri : Cert.algebraic_KernelIdeal_ReferenceIdeal := by
  intro m ρ m' ρ' _ hagree
  refine ⟨Cert.ReferenceIdeal.Value.res_main_v27 m' 0, ?_, ?_⟩
  · have hp : Cert.Attention.Parts m _ _ _ _ _ := ⟨fun c => (hagree c).1, fun c => (hagree c).2.1, fun c => (hagree c).2.2.1,
      fun c => (hagree c).2.2.2.1, fun c => (hagree c).2.2.2.2⟩
    exact (θ_run Cert.KernelIdeal.defs _ _).mono (fun r h c => ⟨(h.1 c).1.trans (hp.result_eq m' c), (h.1 c).2⟩)
      (Cert.KernelIdeal.Run.run_main (F := Ideal) m ρ)
  · exact (θ_run Cert.ReferenceIdeal.defs _ _).mono (fun _ h => h 0) (Cert.ReferenceIdeal.Value.run (F := Ideal) m' ρ')

/-- The claims together, after the facts of the three programs. -/
theorem claim : Cert.Claim :=
  ⟨Cert.Kernel.Gen.facts, Cert.KernelIdeal.Gen.facts, Cert.ReferenceIdeal.Gen.facts,
    frame_p, frame_pi, frame_ri, preserves_p, algebraic_pi_ri⟩

end Cert.Proof

end
